-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v378) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S64x1x1024 : Shape := ⟨3, ![64, 1, 1024]⟩
abbrev S16x1024 : Shape := ⟨2, ![16, 1024]⟩
abbrev S16x2048x1024 : Shape := ⟨3, ![16, 2048, 1024]⟩
abbrev S16x1024x2048 : Shape := ⟨3, ![16, 1024, 2048]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S64x1x1024 .f32) (main_arg1 : FVec F S16x1024 .f32) (main_arg2 : FVec F S16x2048x1024 .f32) (main_arg3 : FVec F S16x2048x1024 .f32) (main_arg4 : FVec F S16x1024x2048 .f32) : IVec S_ 1 :=
  let main_v0 : FVec F S64x1x1024 .f32 := Host.absf main_arg0
  let main_cst : FVec F S_ .f32 := constant S_ .f32 0x7F800000#32
  let main_v1 : FVec F S64x1x1024 .f32 := broadcastInDim S64x1x1024 ![] bcast_S_S64x1x1024 main_cst
  let main_v2 : IVec S64x1x1024 1 := cmpf .olt main_v0 main_v1
  let main_c : IVec S_ 1 := constantI S_ 1 1#1
  let main_v3 : IVec S_ 1 := (fun x v => Host.reduce IntOp.andi x v reducesTo_S64x1x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S64x1x1024 : Shape := ⟨3, ![64, 1, 1024]⟩
abbrev S16x1024 : Shape := ⟨2, ![16, 1024]⟩
abbrev S16x2048x1024 : Shape := ⟨3, ![16, 2048, 1024]⟩
abbrev S16x1024x2048 : Shape := ⟨3, ![16, 1024, 2048]⟩
abbrev S64x1024 : Shape := ⟨2, ![64, 1024]⟩
abbrev S1x1024x1024 : Shape := ⟨3, ![1, 1024, 1024]⟩
abbrev S64x16 : Shape := ⟨2, ![64, 16]⟩
abbrev S64 : Shape := ⟨1, ![64]⟩
abbrev S64x1 : Shape := ⟨2, ![64, 1]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S64x1x1024, .f32⟩
  | .hbm, ⟨1, _⟩ => ⟨S16x1024, .f32⟩
  | .hbm, ⟨2, _⟩ => ⟨S16x2048x1024, .f32⟩
  | .hbm, ⟨3, _⟩ => ⟨S16x2048x1024, .f32⟩
  | .hbm, ⟨4, _⟩ => ⟨S16x1024x2048, .f32⟩
  | .hbm, ⟨5, _⟩ => ⟨S64x1024, .f32⟩
  | .hbm, ⟨6, _⟩ => ⟨S64x1024, .f32⟩
  | .hbm, ⟨7, _⟩ => ⟨S64x1x1024, .f32⟩
  | .local _ .vmem, ⟨0, _⟩ => ⟨S64x1024, .f32⟩
  | .local _ .vmem, ⟨1, _⟩ => ⟨S16x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S64x1024, .f32⟩
  | .local _ .vmem, ⟨9, _⟩ => ⟨S64x16, .f32⟩
  | _, _ => ⟨S64x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S64x1x1024 : Shape := ⟨3, ![64, 1, 1024]⟩
abbrev S16x1024 : Shape := ⟨2, ![16, 1024]⟩
abbrev S16x2048x1024 : Shape := ⟨3, ![16, 2048, 1024]⟩
abbrev S16x1024x2048 : Shape := ⟨3, ![16, 1024, 2048]⟩
abbrev S64x1024 : Shape := ⟨2, ![64, 1024]⟩
abbrev S1024x16 : Shape := ⟨2, ![1024, 16]⟩
abbrev S64x16 : Shape := ⟨2, ![64, 16]⟩
abbrev S_ : Shape := ⟨0, ![]⟩
abbrev S64 : Shape := ⟨1, ![64]⟩
abbrev S64x1 : Shape := ⟨2, ![64, 1]⟩
abbrev S64x2 : Shape := ⟨2, ![64, 2]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024x2048 : Shape := ⟨2, ![1024, 2048]⟩
abbrev S64x2048 : Shape := ⟨2, ![64, 2048]⟩

abbrev nBuf : Space → Nat
  | .hbm => 601
  | .vmem => 0
  | .smem => 0
  | _ => 0

abbrev hbmTy0_0 (i : Nat) : BufTy := match i % 128 with
  | 0 => ⟨S64x1x1024, .f32⟩
  | 1 => ⟨S16x1024, .f32⟩
  | 2 => ⟨S16x2048x1024, .f32⟩
  | 3 => ⟨S16x2048x1024, .f32⟩
  | 4 => ⟨S16x1024x2048, .f32⟩
  | 5 => ⟨S64x1024, .f32⟩
  | 6 => ⟨S1024x16, .f32⟩
  | 7 => ⟨S64x16, .f32⟩
  | 8 => ⟨S_, .f32⟩
  | 9 => ⟨S64, .f32⟩
  | 10 => ⟨S_, .f32⟩
  | 11 => ⟨S64, .f32⟩
  | 12 => ⟨S64, .f32⟩
  | 13 => ⟨S64x1, .f32⟩
  | 14 => ⟨S64x16, .f32⟩
  | 15 => ⟨S64x16, .f32⟩
  | 16 => ⟨S64x16, .f32⟩
  | 17 => ⟨S_, .f32⟩
  | 18 => ⟨S64, .f32⟩
  | 19 => ⟨S64x1, .f32⟩
  | 20 => ⟨S64x16, .f32⟩
  | 21 => ⟨S64x16, .f32⟩
  | 22 => ⟨S64x2, .f32⟩
  | 23 => ⟨S64x2, .i32⟩
  | 24 => ⟨S_, .f32⟩
  | 25 => ⟨S64, .f32⟩
  | 26 => ⟨S_, .f32⟩
  | 27 => ⟨S64, .f32⟩
  | 28 => ⟨S64, .f32⟩
  | 29 => ⟨S64x1, .f32⟩
  | 30 => ⟨S64x2, .f32⟩
  | 31 => ⟨S64x2, .f32⟩
  | 32 => ⟨S64x2, .f32⟩
  | 33 => ⟨S_, .f32⟩
  | 34 => ⟨S64, .f32⟩
  | 35 => ⟨S64x1, .f32⟩
  | 36 => ⟨S64x2, .f32⟩
  | 37 => ⟨S64x2, .f32⟩
  | 38 => ⟨S_, .f32⟩
  | 39 => ⟨S64x1024, .f32⟩
  | 40 => ⟨S1x2048x1024, .f32⟩
  | 41 => ⟨S2048x1024, .f32⟩
  | 42 => ⟨S1x2048x1024, .f32⟩
  | 43 => ⟨S2048x1024, .f32⟩
  | 44 => ⟨S1x1024x2048, .f32⟩
  | 45 => ⟨S1024x2048, .f32⟩
  | 46 => ⟨S1024x2048, .f32⟩
  | 47 => ⟨S64x2048, .f32⟩
  | 48 => ⟨S64x2048, .f32⟩
  | 49 => ⟨S64x2048, .f32⟩
  | 50 => ⟨S_, .f32⟩
  | 51 => ⟨S64x2048, .f32⟩
  | 52 => ⟨S64x2048, .f32⟩
  | 53 => ⟨S_, .f32⟩
  | 54 => ⟨S64x2048, .f32⟩
  | 55 => ⟨S64x2048, .f32⟩
  | 56 => ⟨S64x2048, .f32⟩
  | 57 => ⟨S1024x2048, .f32⟩
  | 58 => ⟨S64x2048, .f32⟩
  | 59 => ⟨S64x2048, .f32⟩
  | 60 => ⟨S2048x1024, .f32⟩
  | 61 => ⟨S64x1024, .f32⟩
  | 62 => ⟨S_, .i32⟩
  | 63 => ⟨S64x2, .i32⟩
  | 64 => ⟨S64x2, .i1⟩
  | 65 => ⟨S_, .f32⟩
  | 66 => ⟨S_, .f32⟩
  | 67 => ⟨S64x2, .f32⟩
  | 68 => ⟨S64x2, .f32⟩
  | 69 => ⟨S_, .f32⟩
  | 70 => ⟨S64, .f32⟩
  | 71 => ⟨S64x1, .f32⟩
  | 72 => ⟨S64x1024, .f32⟩
  | 73 => ⟨S64x1024, .f32⟩
  | 74 => ⟨S64x1024, .f32⟩
  | 75 => ⟨S1x2048x1024, .f32⟩
  | 76 => ⟨S2048x1024, .f32⟩
  | 77 => ⟨S1x2048x1024, .f32⟩
  | 78 => ⟨S2048x1024, .f32⟩
  | 79 => ⟨S1x1024x2048, .f32⟩
  | 80 => ⟨S1024x2048, .f32⟩
  | 81 => ⟨S1024x2048, .f32⟩
  | 82 => ⟨S64x2048, .f32⟩
  | 83 => ⟨S64x2048, .f32⟩
  | 84 => ⟨S64x2048, .f32⟩
  | 85 => ⟨S_, .f32⟩
  | 86 => ⟨S64x2048, .f32⟩
  | 87 => ⟨S64x2048, .f32⟩
  | 88 => ⟨S_, .f32⟩
  | 89 => ⟨S64x2048, .f32⟩
  | 90 => ⟨S64x2048, .f32⟩
  | 91 => ⟨S64x2048, .f32⟩
  | 92 => ⟨S1024x2048, .f32⟩
  | 93 => ⟨S64x2048, .f32⟩
  | 94 => ⟨S64x2048, .f32⟩
  | 95 => ⟨S2048x1024, .f32⟩
  | 96 => ⟨S64x1024, .f32⟩
  | 97 => ⟨S_, .i32⟩
  | 98 => ⟨S64x2, .i32⟩
  | 99 => ⟨S64x2, .i1⟩
  | 100 => ⟨S_, .f32⟩
  | 101 => ⟨S_, .f32⟩
  | 102 => ⟨S64x2, .f32⟩
  | 103 => ⟨S64x2, .f32⟩
  | 104 => ⟨S_, .f32⟩
  | 105 => ⟨S64, .f32⟩
  | 106 => ⟨S64x1, .f32⟩
  | 107 => ⟨S64x1024, .f32⟩
  | 108 => ⟨S64x1024, .f32⟩
  | 109 => ⟨S64x1024, .f32⟩
  | 110 => ⟨S1x2048x1024, .f32⟩
  | 111 => ⟨S2048x1024, .f32⟩
  | 112 => ⟨S1x2048x1024, .f32⟩
  | 113 => ⟨S2048x1024, .f32⟩
  | 114 => ⟨S1x1024x2048, .f32⟩
  | 115 => ⟨S1024x2048, .f32⟩
  | 116 => ⟨S1024x2048, .f32⟩
  | 117 => ⟨S64x2048, .f32⟩
  | 118 => ⟨S64x2048, .f32⟩
  | 119 => ⟨S64x2048, .f32⟩
  | 120 => ⟨S_, .f32⟩
  | 121 => ⟨S64x2048, .f32⟩
  | 122 => ⟨S64x2048, .f32⟩
  | 123 => ⟨S_, .f32⟩
  | 124 => ⟨S64x2048, .f32⟩
  | 125 => ⟨S64x2048, .f32⟩
  | 126 => ⟨S64x2048, .f32⟩
  | 127 => ⟨S1024x2048, .f32⟩
  | _ => ⟨S64x1x1024, .f32⟩

abbrev hbmTy0_1 (i : Nat) : BufTy := match i % 128 with
  | 0 => ⟨S64x2048, .f32⟩
  | 1 => ⟨S64x2048, .f32⟩
  | 2 => ⟨S2048x1024, .f32⟩
  | 3 => ⟨S64x1024, .f32⟩
  | 4 => ⟨S_, .i32⟩
  | 5 => ⟨S64x2, .i32⟩
  | 6 => ⟨S64x2, .i1⟩
  | 7 => ⟨S_, .f32⟩
  | 8 => ⟨S_, .f32⟩
  | 9 => ⟨S64x2, .f32⟩
  | 10 => ⟨S64x2, .f32⟩
  | 11 => ⟨S_, .f32⟩
  | 12 => ⟨S64, .f32⟩
  | 13 => ⟨S64x1, .f32⟩
  | 14 => ⟨S64x1024, .f32⟩
  | 15 => ⟨S64x1024, .f32⟩
  | 16 => ⟨S64x1024, .f32⟩
  | 17 => ⟨S1x2048x1024, .f32⟩
  | 18 => ⟨S2048x1024, .f32⟩
  | 19 => ⟨S1x2048x1024, .f32⟩
  | 20 => ⟨S2048x1024, .f32⟩
  | 21 => ⟨S1x1024x2048, .f32⟩
  | 22 => ⟨S1024x2048, .f32⟩
  | 23 => ⟨S1024x2048, .f32⟩
  | 24 => ⟨S64x2048, .f32⟩
  | 25 => ⟨S64x2048, .f32⟩
  | 26 => ⟨S64x2048, .f32⟩
  | 27 => ⟨S_, .f32⟩
  | 28 => ⟨S64x2048, .f32⟩
  | 29 => ⟨S64x2048, .f32⟩
  | 30 => ⟨S_, .f32⟩
  | 31 => ⟨S64x2048, .f32⟩
  | 32 => ⟨S64x2048, .f32⟩
  | 33 => ⟨S64x2048, .f32⟩
  | 34 => ⟨S1024x2048, .f32⟩
  | 35 => ⟨S64x2048, .f32⟩
  | 36 => ⟨S64x2048, .f32⟩
  | 37 => ⟨S2048x1024, .f32⟩
  | 38 => ⟨S64x1024, .f32⟩
  | 39 => ⟨S_, .i32⟩
  | 40 => ⟨S64x2, .i32⟩
  | 41 => ⟨S64x2, .i1⟩
  | 42 => ⟨S_, .f32⟩
  | 43 => ⟨S_, .f32⟩
  | 44 => ⟨S64x2, .f32⟩
  | 45 => ⟨S64x2, .f32⟩
  | 46 => ⟨S_, .f32⟩
  | 47 => ⟨S64, .f32⟩
  | 48 => ⟨S64x1, .f32⟩
  | 49 => ⟨S64x1024, .f32⟩
  | 50 => ⟨S64x1024, .f32⟩
  | 51 => ⟨S64x1024, .f32⟩
  | 52 => ⟨S1x2048x1024, .f32⟩
  | 53 => ⟨S2048x1024, .f32⟩
  | 54 => ⟨S1x2048x1024, .f32⟩
  | 55 => ⟨S2048x1024, .f32⟩
  | 56 => ⟨S1x1024x2048, .f32⟩
  | 57 => ⟨S1024x2048, .f32⟩
  | 58 => ⟨S1024x2048, .f32⟩
  | 59 => ⟨S64x2048, .f32⟩
  | 60 => ⟨S64x2048, .f32⟩
  | 61 => ⟨S64x2048, .f32⟩
  | 62 => ⟨S_, .f32⟩
  | 63 => ⟨S64x2048, .f32⟩
  | 64 => ⟨S64x2048, .f32⟩
  | 65 => ⟨S_, .f32⟩
  | 66 => ⟨S64x2048, .f32⟩
  | 67 => ⟨S64x2048, .f32⟩
  | 68 => ⟨S64x2048, .f32⟩
  | 69 => ⟨S1024x2048, .f32⟩
  | 70 => ⟨S64x2048, .f32⟩
  | 71 => ⟨S64x2048, .f32⟩
  | 72 => ⟨S2048x1024, .f32⟩
  | 73 => ⟨S64x1024, .f32⟩
  | 74 => ⟨S_, .i32⟩
  | 75 => ⟨S64x2, .i32⟩
  | 76 => ⟨S64x2, .i1⟩
  | 77 => ⟨S_, .f32⟩
  | 78 => ⟨S_, .f32⟩
  | 79 => ⟨S64x2, .f32⟩
  | 80 => ⟨S64x2, .f32⟩
  | 81 => ⟨S_, .f32⟩
  | 82 => ⟨S64, .f32⟩
  | 83 => ⟨S64x1, .f32⟩
  | 84 => ⟨S64x1024, .f32⟩
  | 85 => ⟨S64x1024, .f32⟩
  | 86 => ⟨S64x1024, .f32⟩
  | 87 => ⟨S1x2048x1024, .f32⟩
  | 88 => ⟨S2048x1024, .f32⟩
  | 89 => ⟨S1x2048x1024, .f32⟩
  | 90 => ⟨S2048x1024, .f32⟩
  | 91 => ⟨S1x1024x2048, .f32⟩
  | 92 => ⟨S1024x2048, .f32⟩
  | 93 => ⟨S1024x2048, .f32⟩
  | 94 => ⟨S64x2048, .f32⟩
  | 95 => ⟨S64x2048, .f32⟩
  | 96 => ⟨S64x2048, .f32⟩
  | 97 => ⟨S_, .f32⟩
  | 98 => ⟨S64x2048, .f32⟩
  | 99 => ⟨S64x2048, .f32⟩
  | 100 => ⟨S_, .f32⟩
  | 101 => ⟨S64x2048, .f32⟩
  | 102 => ⟨S64x2048, .f32⟩
  | 103 => ⟨S64x2048, .f32⟩
  | 104 => ⟨S1024x2048, .f32⟩
  | 105 => ⟨S64x2048, .f32⟩
  | 106 => ⟨S64x2048, .f32⟩
  | 107 => ⟨S2048x1024, .f32⟩
  | 108 => ⟨S64x1024, .f32⟩
  | 109 => ⟨S_, .i32⟩
  | 110 => ⟨S64x2, .i32⟩
  | 111 => ⟨S64x2, .i1⟩
  | 112 => ⟨S_, .f32⟩
  | 113 => ⟨S_, .f32⟩
  | 114 => ⟨S64x2, .f32⟩
  | 115 => ⟨S64x2, .f32⟩
  | 116 => ⟨S_, .f32⟩
  | 117 => ⟨S64, .f32⟩
  | 118 => ⟨S64x1, .f32⟩
  | 119 => ⟨S64x1024, .f32⟩
  | 120 => ⟨S64x1024, .f32⟩
  | 121 => ⟨S64x1024, .f32⟩
  | 122 => ⟨S1x2048x1024, .f32⟩
  | 123 => ⟨S2048x1024, .f32⟩
  | 124 => ⟨S1x2048x1024, .f32⟩
  | 125 => ⟨S2048x1024, .f32⟩
  | 126 => ⟨S1x1024x2048, .f32⟩
  | 127 => ⟨S1024x2048, .f32⟩
  | _ => ⟨S64x1x1024, .f32⟩

abbrev hbmTy0_2 (i : Nat) : BufTy := match i % 128 with
  | 0 => ⟨S1024x2048, .f32⟩
  | 1 => ⟨S64x2048, .f32⟩
  | 2 => ⟨S64x2048, .f32⟩
  | 3 => ⟨S64x2048, .f32⟩
  | 4 => ⟨S_, .f32⟩
  | 5 => ⟨S64x2048, .f32⟩
  | 6 => ⟨S64x2048, .f32⟩
  | 7 => ⟨S_, .f32⟩
  | 8 => ⟨S64x2048, .f32⟩
  | 9 => ⟨S64x2048, .f32⟩
  | 10 => ⟨S64x2048, .f32⟩
  | 11 => ⟨S1024x2048, .f32⟩
  | 12 => ⟨S64x2048, .f32⟩
  | 13 => ⟨S64x2048, .f32⟩
  | 14 => ⟨S2048x1024, .f32⟩
  | 15 => ⟨S64x1024, .f32⟩
  | 16 => ⟨S_, .i32⟩
  | 17 => ⟨S64x2, .i32⟩
  | 18 => ⟨S64x2, .i1⟩
  | 19 => ⟨S_, .f32⟩
  | 20 => ⟨S_, .f32⟩
  | 21 => ⟨S64x2, .f32⟩
  | 22 => ⟨S64x2, .f32⟩
  | 23 => ⟨S_, .f32⟩
  | 24 => ⟨S64, .f32⟩
  | 25 => ⟨S64x1, .f32⟩
  | 26 => ⟨S64x1024, .f32⟩
  | 27 => ⟨S64x1024, .f32⟩
  | 28 => ⟨S64x1024, .f32⟩
  | 29 => ⟨S1x2048x1024, .f32⟩
  | 30 => ⟨S2048x1024, .f32⟩
  | 31 => ⟨S1x2048x1024, .f32⟩
  | 32 => ⟨S2048x1024, .f32⟩
  | 33 => ⟨S1x1024x2048, .f32⟩
  | 34 => ⟨S1024x2048, .f32⟩
  | 35 => ⟨S1024x2048, .f32⟩
  | 36 => ⟨S64x2048, .f32⟩
  | 37 => ⟨S64x2048, .f32⟩
  | 38 => ⟨S64x2048, .f32⟩
  | 39 => ⟨S_, .f32⟩
  | 40 => ⟨S64x2048, .f32⟩
  | 41 => ⟨S64x2048, .f32⟩
  | 42 => ⟨S_, .f32⟩
  | 43 => ⟨S64x2048, .f32⟩
  | 44 => ⟨S64x2048, .f32⟩
  | 45 => ⟨S64x2048, .f32⟩
  | 46 => ⟨S1024x2048, .f32⟩
  | 47 => ⟨S64x2048, .f32⟩
  | 48 => ⟨S64x2048, .f32⟩
  | 49 => ⟨S2048x1024, .f32⟩
  | 50 => ⟨S64x1024, .f32⟩
  | 51 => ⟨S_, .i32⟩
  | 52 => ⟨S64x2, .i32⟩
  | 53 => ⟨S64x2, .i1⟩
  | 54 => ⟨S_, .f32⟩
  | 55 => ⟨S_, .f32⟩
  | 56 => ⟨S64x2, .f32⟩
  | 57 => ⟨S64x2, .f32⟩
  | 58 => ⟨S_, .f32⟩
  | 59 => ⟨S64, .f32⟩
  | 60 => ⟨S64x1, .f32⟩
  | 61 => ⟨S64x1024, .f32⟩
  | 62 => ⟨S64x1024, .f32⟩
  | 63 => ⟨S64x1024, .f32⟩
  | 64 => ⟨S1x2048x1024, .f32⟩
  | 65 => ⟨S2048x1024, .f32⟩
  | 66 => ⟨S1x2048x1024, .f32⟩
  | 67 => ⟨S2048x1024, .f32⟩
  | 68 => ⟨S1x1024x2048, .f32⟩
  | 69 => ⟨S1024x2048, .f32⟩
  | 70 => ⟨S1024x2048, .f32⟩
  | 71 => ⟨S64x2048, .f32⟩
  | 72 => ⟨S64x2048, .f32⟩
  | 73 => ⟨S64x2048, .f32⟩
  | 74 => ⟨S_, .f32⟩
  | 75 => ⟨S64x2048, .f32⟩
  | 76 => ⟨S64x2048, .f32⟩
  | 77 => ⟨S_, .f32⟩
  | 78 => ⟨S64x2048, .f32⟩
  | 79 => ⟨S64x2048, .f32⟩
  | 80 => ⟨S64x2048, .f32⟩
  | 81 => ⟨S1024x2048, .f32⟩
  | 82 => ⟨S64x2048, .f32⟩
  | 83 => ⟨S64x2048, .f32⟩
  | 84 => ⟨S2048x1024, .f32⟩
  | 85 => ⟨S64x1024, .f32⟩
  | 86 => ⟨S_, .i32⟩
  | 87 => ⟨S64x2, .i32⟩
  | 88 => ⟨S64x2, .i1⟩
  | 89 => ⟨S_, .f32⟩
  | 90 => ⟨S_, .f32⟩
  | 91 => ⟨S64x2, .f32⟩
  | 92 => ⟨S64x2, .f32⟩
  | 93 => ⟨S_, .f32⟩
  | 94 => ⟨S64, .f32⟩
  | 95 => ⟨S64x1, .f32⟩
  | 96 => ⟨S64x1024, .f32⟩
  | 97 => ⟨S64x1024, .f32⟩
  | 98 => ⟨S64x1024, .f32⟩
  | 99 => ⟨S1x2048x1024, .f32⟩
  | 100 => ⟨S2048x1024, .f32⟩
  | 101 => ⟨S1x2048x1024, .f32⟩
  | 102 => ⟨S2048x1024, .f32⟩
  | 103 => ⟨S1x1024x2048, .f32⟩
  | 104 => ⟨S1024x2048, .f32⟩
  | 105 => ⟨S1024x2048, .f32⟩
  | 106 => ⟨S64x2048, .f32⟩
  | 107 => ⟨S64x2048, .f32⟩
  | 108 => ⟨S64x2048, .f32⟩
  | 109 => ⟨S_, .f32⟩
  | 110 => ⟨S64x2048, .f32⟩
  | 111 => ⟨S64x2048, .f32⟩
  | 112 => ⟨S_, .f32⟩
  | 113 => ⟨S64x2048, .f32⟩
  | 114 => ⟨S64x2048, .f32⟩
  | 115 => ⟨S64x2048, .f32⟩
  | 116 => ⟨S1024x2048, .f32⟩
  | 117 => ⟨S64x2048, .f32⟩
  | 118 => ⟨S64x2048, .f32⟩
  | 119 => ⟨S2048x1024, .f32⟩
  | 120 => ⟨S64x1024, .f32⟩
  | 121 => ⟨S_, .i32⟩
  | 122 => ⟨S64x2, .i32⟩
  | 123 => ⟨S64x2, .i1⟩
  | 124 => ⟨S_, .f32⟩
  | 125 => ⟨S_, .f32⟩
  | 126 => ⟨S64x2, .f32⟩
  | 127 => ⟨S64x2, .f32⟩
  | _ => ⟨S64x1x1024, .f32⟩

abbrev hbmTy0_3 (i : Nat) : BufTy := match i % 128 with
  | 0 => ⟨S_, .f32⟩
  | 1 => ⟨S64, .f32⟩
  | 2 => ⟨S64x1, .f32⟩
  | 3 => ⟨S64x1024, .f32⟩
  | 4 => ⟨S64x1024, .f32⟩
  | 5 => ⟨S64x1024, .f32⟩
  | 6 => ⟨S1x2048x1024, .f32⟩
  | 7 => ⟨S2048x1024, .f32⟩
  | 8 => ⟨S1x2048x1024, .f32⟩
  | 9 => ⟨S2048x1024, .f32⟩
  | 10 => ⟨S1x1024x2048, .f32⟩
  | 11 => ⟨S1024x2048, .f32⟩
  | 12 => ⟨S1024x2048, .f32⟩
  | 13 => ⟨S64x2048, .f32⟩
  | 14 => ⟨S64x2048, .f32⟩
  | 15 => ⟨S64x2048, .f32⟩
  | 16 => ⟨S_, .f32⟩
  | 17 => ⟨S64x2048, .f32⟩
  | 18 => ⟨S64x2048, .f32⟩
  | 19 => ⟨S_, .f32⟩
  | 20 => ⟨S64x2048, .f32⟩
  | 21 => ⟨S64x2048, .f32⟩
  | 22 => ⟨S64x2048, .f32⟩
  | 23 => ⟨S1024x2048, .f32⟩
  | 24 => ⟨S64x2048, .f32⟩
  | 25 => ⟨S64x2048, .f32⟩
  | 26 => ⟨S2048x1024, .f32⟩
  | 27 => ⟨S64x1024, .f32⟩
  | 28 => ⟨S_, .i32⟩
  | 29 => ⟨S64x2, .i32⟩
  | 30 => ⟨S64x2, .i1⟩
  | 31 => ⟨S_, .f32⟩
  | 32 => ⟨S_, .f32⟩
  | 33 => ⟨S64x2, .f32⟩
  | 34 => ⟨S64x2, .f32⟩
  | 35 => ⟨S_, .f32⟩
  | 36 => ⟨S64, .f32⟩
  | 37 => ⟨S64x1, .f32⟩
  | 38 => ⟨S64x1024, .f32⟩
  | 39 => ⟨S64x1024, .f32⟩
  | 40 => ⟨S64x1024, .f32⟩
  | 41 => ⟨S1x2048x1024, .f32⟩
  | 42 => ⟨S2048x1024, .f32⟩
  | 43 => ⟨S1x2048x1024, .f32⟩
  | 44 => ⟨S2048x1024, .f32⟩
  | 45 => ⟨S1x1024x2048, .f32⟩
  | 46 => ⟨S1024x2048, .f32⟩
  | 47 => ⟨S1024x2048, .f32⟩
  | 48 => ⟨S64x2048, .f32⟩
  | 49 => ⟨S64x2048, .f32⟩
  | 50 => ⟨S64x2048, .f32⟩
  | 51 => ⟨S_, .f32⟩
  | 52 => ⟨S64x2048, .f32⟩
  | 53 => ⟨S64x2048, .f32⟩
  | 54 => ⟨S_, .f32⟩
  | 55 => ⟨S64x2048, .f32⟩
  | 56 => ⟨S64x2048, .f32⟩
  | 57 => ⟨S64x2048, .f32⟩
  | 58 => ⟨S1024x2048, .f32⟩
  | 59 => ⟨S64x2048, .f32⟩
  | 60 => ⟨S64x2048, .f32⟩
  | 61 => ⟨S2048x1024, .f32⟩
  | 62 => ⟨S64x1024, .f32⟩
  | 63 => ⟨S_, .i32⟩
  | 64 => ⟨S64x2, .i32⟩
  | 65 => ⟨S64x2, .i1⟩
  | 66 => ⟨S_, .f32⟩
  | 67 => ⟨S_, .f32⟩
  | 68 => ⟨S64x2, .f32⟩
  | 69 => ⟨S64x2, .f32⟩
  | 70 => ⟨S_, .f32⟩
  | 71 => ⟨S64, .f32⟩
  | 72 => ⟨S64x1, .f32⟩
  | 73 => ⟨S64x1024, .f32⟩
  | 74 => ⟨S64x1024, .f32⟩
  | 75 => ⟨S64x1024, .f32⟩
  | 76 => ⟨S1x2048x1024, .f32⟩
  | 77 => ⟨S2048x1024, .f32⟩
  | 78 => ⟨S1x2048x1024, .f32⟩
  | 79 => ⟨S2048x1024, .f32⟩
  | 80 => ⟨S1x1024x2048, .f32⟩
  | 81 => ⟨S1024x2048, .f32⟩
  | 82 => ⟨S1024x2048, .f32⟩
  | 83 => ⟨S64x2048, .f32⟩
  | 84 => ⟨S64x2048, .f32⟩
  | 85 => ⟨S64x2048, .f32⟩
  | 86 => ⟨S_, .f32⟩
  | 87 => ⟨S64x2048, .f32⟩
  | 88 => ⟨S64x2048, .f32⟩
  | 89 => ⟨S_, .f32⟩
  | 90 => ⟨S64x2048, .f32⟩
  | 91 => ⟨S64x2048, .f32⟩
  | 92 => ⟨S64x2048, .f32⟩
  | 93 => ⟨S1024x2048, .f32⟩
  | 94 => ⟨S64x2048, .f32⟩
  | 95 => ⟨S64x2048, .f32⟩
  | 96 => ⟨S2048x1024, .f32⟩
  | 97 => ⟨S64x1024, .f32⟩
  | 98 => ⟨S_, .i32⟩
  | 99 => ⟨S64x2, .i32⟩
  | 100 => ⟨S64x2, .i1⟩
  | 101 => ⟨S_, .f32⟩
  | 102 => ⟨S_, .f32⟩
  | 103 => ⟨S64x2, .f32⟩
  | 104 => ⟨S64x2, .f32⟩
  | 105 => ⟨S_, .f32⟩
  | 106 => ⟨S64, .f32⟩
  | 107 => ⟨S64x1, .f32⟩
  | 108 => ⟨S64x1024, .f32⟩
  | 109 => ⟨S64x1024, .f32⟩
  | 110 => ⟨S64x1024, .f32⟩
  | 111 => ⟨S1x2048x1024, .f32⟩
  | 112 => ⟨S2048x1024, .f32⟩
  | 113 => ⟨S1x2048x1024, .f32⟩
  | 114 => ⟨S2048x1024, .f32⟩
  | 115 => ⟨S1x1024x2048, .f32⟩
  | 116 => ⟨S1024x2048, .f32⟩
  | 117 => ⟨S1024x2048, .f32⟩
  | 118 => ⟨S64x2048, .f32⟩
  | 119 => ⟨S64x2048, .f32⟩
  | 120 => ⟨S64x2048, .f32⟩
  | 121 => ⟨S_, .f32⟩
  | 122 => ⟨S64x2048, .f32⟩
  | 123 => ⟨S64x2048, .f32⟩
  | 124 => ⟨S_, .f32⟩
  | 125 => ⟨S64x2048, .f32⟩
  | 126 => ⟨S64x2048, .f32⟩
  | 127 => ⟨S64x2048, .f32⟩
  | _ => ⟨S64x1x1024, .f32⟩

abbrev hbmTy0_4 (i : Nat) : BufTy := match i % 128 with
  | 0 => ⟨S1024x2048, .f32⟩
  | 1 => ⟨S64x2048, .f32⟩
  | 2 => ⟨S64x2048, .f32⟩
  | 3 => ⟨S2048x1024, .f32⟩
  | 4 => ⟨S64x1024, .f32⟩
  | 5 => ⟨S_, .i32⟩
  | 6 => ⟨S64x2, .i32⟩
  | 7 => ⟨S64x2, .i1⟩
  | 8 => ⟨S_, .f32⟩
  | 9 => ⟨S_, .f32⟩
  | 10 => ⟨S64x2, .f32⟩
  | 11 => ⟨S64x2, .f32⟩
  | 12 => ⟨S_, .f32⟩
  | 13 => ⟨S64, .f32⟩
  | 14 => ⟨S64x1, .f32⟩
  | 15 => ⟨S64x1024, .f32⟩
  | 16 => ⟨S64x1024, .f32⟩
  | 17 => ⟨S64x1024, .f32⟩
  | 18 => ⟨S1x2048x1024, .f32⟩
  | 19 => ⟨S2048x1024, .f32⟩
  | 20 => ⟨S1x2048x1024, .f32⟩
  | 21 => ⟨S2048x1024, .f32⟩
  | 22 => ⟨S1x1024x2048, .f32⟩
  | 23 => ⟨S1024x2048, .f32⟩
  | 24 => ⟨S1024x2048, .f32⟩
  | 25 => ⟨S64x2048, .f32⟩
  | 26 => ⟨S64x2048, .f32⟩
  | 27 => ⟨S64x2048, .f32⟩
  | 28 => ⟨S_, .f32⟩
  | 29 => ⟨S64x2048, .f32⟩
  | 30 => ⟨S64x2048, .f32⟩
  | 31 => ⟨S_, .f32⟩
  | 32 => ⟨S64x2048, .f32⟩
  | 33 => ⟨S64x2048, .f32⟩
  | 34 => ⟨S64x2048, .f32⟩
  | 35 => ⟨S1024x2048, .f32⟩
  | 36 => ⟨S64x2048, .f32⟩
  | 37 => ⟨S64x2048, .f32⟩
  | 38 => ⟨S2048x1024, .f32⟩
  | 39 => ⟨S64x1024, .f32⟩
  | 40 => ⟨S_, .i32⟩
  | 41 => ⟨S64x2, .i32⟩
  | 42 => ⟨S64x2, .i1⟩
  | 43 => ⟨S_, .f32⟩
  | 44 => ⟨S_, .f32⟩
  | 45 => ⟨S64x2, .f32⟩
  | 46 => ⟨S64x2, .f32⟩
  | 47 => ⟨S_, .f32⟩
  | 48 => ⟨S64, .f32⟩
  | 49 => ⟨S64x1, .f32⟩
  | 50 => ⟨S64x1024, .f32⟩
  | 51 => ⟨S64x1024, .f32⟩
  | 52 => ⟨S64x1024, .f32⟩
  | 53 => ⟨S1x2048x1024, .f32⟩
  | 54 => ⟨S2048x1024, .f32⟩
  | 55 => ⟨S1x2048x1024, .f32⟩
  | 56 => ⟨S2048x1024, .f32⟩
  | 57 => ⟨S1x1024x2048, .f32⟩
  | 58 => ⟨S1024x2048, .f32⟩
  | 59 => ⟨S1024x2048, .f32⟩
  | 60 => ⟨S64x2048, .f32⟩
  | 61 => ⟨S64x2048, .f32⟩
  | 62 => ⟨S64x2048, .f32⟩
  | 63 => ⟨S_, .f32⟩
  | 64 => ⟨S64x2048, .f32⟩
  | 65 => ⟨S64x2048, .f32⟩
  | 66 => ⟨S_, .f32⟩
  | 67 => ⟨S64x2048, .f32⟩
  | 68 => ⟨S64x2048, .f32⟩
  | 69 => ⟨S64x2048, .f32⟩
  | 70 => ⟨S1024x2048, .f32⟩
  | 71 => ⟨S64x2048, .f32⟩
  | 72 => ⟨S64x2048, .f32⟩
  | 73 => ⟨S2048x1024, .f32⟩
  | 74 => ⟨S64x1024, .f32⟩
  | 75 => ⟨S_, .i32⟩
  | 76 => ⟨S64x2, .i32⟩
  | 77 => ⟨S64x2, .i1⟩
  | 78 => ⟨S_, .f32⟩
  | 79 => ⟨S_, .f32⟩
  | 80 => ⟨S64x2, .f32⟩
  | 81 => ⟨S64x2, .f32⟩
  | 82 => ⟨S_, .f32⟩
  | 83 => ⟨S64, .f32⟩
  | 84 => ⟨S64x1, .f32⟩
  | 85 => ⟨S64x1024, .f32⟩
  | 86 => ⟨S64x1024, .f32⟩
  | 87 => ⟨S64x1024, .f32⟩
  | 88 => ⟨S64x1x1024, .f32⟩
  | _ => ⟨S64x1x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x1x1024, .f32⟩

abbrev bufTy : (tb : Table) → Fin (tcTables nBuf tb) → BufTy
  | .hbm, ⟨i, _⟩ => hbmTy i
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_call1_v0 : Ref sig .tc := ⟨.hbm, 66, rfl⟩
abbrev main_call1_v1 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_8 : Ref sig .tc := ⟨.hbm, 97, rfl⟩
abbrev main_v62 : Ref sig .tc := ⟨.hbm, 98, rfl⟩
abbrev main_v63 : Ref sig .tc := ⟨.hbm, 99, rfl⟩
abbrev main_cst_9 : Ref sig .tc := ⟨.hbm, 100, rfl⟩
abbrev main_call3_v0 : Ref sig .tc := ⟨.hbm, 101, rfl⟩
abbrev main_call3_v1 : Ref sig .tc := ⟨.hbm, 102, rfl⟩
abbrev main_v64 : Ref sig .tc := ⟨.hbm, 103, rfl⟩
abbrev main_cst_10 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call4_v0 : Ref sig .tc := ⟨.hbm, 118, rfl⟩
abbrev main_call4_v1 : Ref sig .tc := ⟨.hbm, 119, rfl⟩
abbrev main_call4_cst : Ref sig .tc := ⟨.hbm, 120, rfl⟩
abbrev main_call4_v2 : Ref sig .tc := ⟨.hbm, 121, rfl⟩
abbrev main_call4_v3 : Ref sig .tc := ⟨.hbm, 122, rfl⟩
abbrev main_call4_cst_0 : Ref sig .tc := ⟨.hbm, 123, rfl⟩
abbrev main_call4_v4 : Ref sig .tc := ⟨.hbm, 124, rfl⟩
abbrev main_call4_v5 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_11 : Ref sig .tc := ⟨.hbm, 132, rfl⟩
abbrev main_v84 : Ref sig .tc := ⟨.hbm, 133, rfl⟩
abbrev main_v85 : Ref sig .tc := ⟨.hbm, 134, rfl⟩
abbrev main_cst_12 : Ref sig .tc := ⟨.hbm, 135, rfl⟩
abbrev main_call5_v0 : Ref sig .tc := ⟨.hbm, 136, rfl⟩
abbrev main_call5_v1 : Ref sig .tc := ⟨.hbm, 137, rfl⟩
abbrev main_v86 : Ref sig .tc := ⟨.hbm, 138, rfl⟩
abbrev main_cst_13 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_call6_v0 : Ref sig .tc := ⟨.hbm, 153, rfl⟩
abbrev main_call6_v1 : Ref sig .tc := ⟨.hbm, 154, rfl⟩
abbrev main_call6_cst : Ref sig .tc := ⟨.hbm, 155, rfl⟩
abbrev main_call6_v2 : Ref sig .tc := ⟨.hbm, 156, rfl⟩
abbrev main_call6_v3 : Ref sig .tc := ⟨.hbm, 157, rfl⟩
abbrev main_call6_cst_0 : Ref sig .tc := ⟨.hbm, 158, rfl⟩
abbrev main_call6_v4 : Ref sig .tc := ⟨.hbm, 159, rfl⟩
abbrev main_call6_v5 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_c_14 : Ref sig .tc := ⟨.hbm, 167, rfl⟩
abbrev main_v106 : Ref sig .tc := ⟨.hbm, 168, rfl⟩
abbrev main_v107 : Ref sig .tc := ⟨.hbm, 169, rfl⟩
abbrev main_cst_15 : Ref sig .tc := ⟨.hbm, 170, rfl⟩
abbrev main_call7_v0 : Ref sig .tc := ⟨.hbm, 171, rfl⟩
abbrev main_call7_v1 : Ref sig .tc := ⟨.hbm, 172, rfl⟩
abbrev main_v108 : Ref sig .tc := ⟨.hbm, 173, rfl⟩
abbrev main_cst_16 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_call8_v0 : Ref sig .tc := ⟨.hbm, 188, rfl⟩
abbrev main_call8_v1 : Ref sig .tc := ⟨.hbm, 189, rfl⟩
abbrev main_call8_cst : Ref sig .tc := ⟨.hbm, 190, rfl⟩
abbrev main_call8_v2 : Ref sig .tc := ⟨.hbm, 191, rfl⟩
abbrev main_call8_v3 : Ref sig .tc := ⟨.hbm, 192, rfl⟩
abbrev main_call8_cst_0 : Ref sig .tc := ⟨.hbm, 193, rfl⟩
abbrev main_call8_v4 : Ref sig .tc := ⟨.hbm, 194, rfl⟩
abbrev main_call8_v5 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_c_17 : Ref sig .tc := ⟨.hbm, 202, rfl⟩
abbrev main_v128 : Ref sig .tc := ⟨.hbm, 203, rfl⟩
abbrev main_v129 : Ref sig .tc := ⟨.hbm, 204, rfl⟩
abbrev main_cst_18 : Ref sig .tc := ⟨.hbm, 205, rfl⟩
abbrev main_call9_v0 : Ref sig .tc := ⟨.hbm, 206, rfl⟩
abbrev main_call9_v1 : Ref sig .tc := ⟨.hbm, 207, rfl⟩
abbrev main_v130 : Ref sig .tc := ⟨.hbm, 208, rfl⟩
abbrev main_cst_19 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_call10_v0 : Ref sig .tc := ⟨.hbm, 223, rfl⟩
abbrev main_call10_v1 : Ref sig .tc := ⟨.hbm, 224, rfl⟩
abbrev main_call10_cst : Ref sig .tc := ⟨.hbm, 225, rfl⟩
abbrev main_call10_v2 : Ref sig .tc := ⟨.hbm, 226, rfl⟩
abbrev main_call10_v3 : Ref sig .tc := ⟨.hbm, 227, rfl⟩
abbrev main_call10_cst_0 : Ref sig .tc := ⟨.hbm, 228, rfl⟩
abbrev main_call10_v4 : Ref sig .tc := ⟨.hbm, 229, rfl⟩
abbrev main_call10_v5 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_c_20 : Ref sig .tc := ⟨.hbm, 237, rfl⟩
abbrev main_v150 : Ref sig .tc := ⟨.hbm, 238, rfl⟩
abbrev main_v151 : Ref sig .tc := ⟨.hbm, 239, rfl⟩
abbrev main_cst_21 : Ref sig .tc := ⟨.hbm, 240, rfl⟩
abbrev main_call11_v0 : Ref sig .tc := ⟨.hbm, 241, rfl⟩
abbrev main_call11_v1 : Ref sig .tc := ⟨.hbm, 242, rfl⟩
abbrev main_v152 : Ref sig .tc := ⟨.hbm, 243, rfl⟩
abbrev main_cst_22 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_call12_v0 : Ref sig .tc := ⟨.hbm, 258, rfl⟩
abbrev main_call12_v1 : Ref sig .tc := ⟨.hbm, 259, rfl⟩
abbrev main_call12_cst : Ref sig .tc := ⟨.hbm, 260, rfl⟩
abbrev main_call12_v2 : Ref sig .tc := ⟨.hbm, 261, rfl⟩
abbrev main_call12_v3 : Ref sig .tc := ⟨.hbm, 262, rfl⟩
abbrev main_call12_cst_0 : Ref sig .tc := ⟨.hbm, 263, rfl⟩
abbrev main_call12_v4 : Ref sig .tc := ⟨.hbm, 264, rfl⟩
abbrev main_call12_v5 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_c_23 : Ref sig .tc := ⟨.hbm, 272, rfl⟩
abbrev main_v172 : Ref sig .tc := ⟨.hbm, 273, rfl⟩
abbrev main_v173 : Ref sig .tc := ⟨.hbm, 274, rfl⟩
abbrev main_cst_24 : Ref sig .tc := ⟨.hbm, 275, rfl⟩
abbrev main_call13_v0 : Ref sig .tc := ⟨.hbm, 276, rfl⟩
abbrev main_call13_v1 : Ref sig .tc := ⟨.hbm, 277, rfl⟩
abbrev main_v174 : Ref sig .tc := ⟨.hbm, 278, rfl⟩
abbrev main_cst_25 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_call14_v0 : Ref sig .tc := ⟨.hbm, 293, rfl⟩
abbrev main_call14_v1 : Ref sig .tc := ⟨.hbm, 294, rfl⟩
abbrev main_call14_cst : Ref sig .tc := ⟨.hbm, 295, rfl⟩
abbrev main_call14_v2 : Ref sig .tc := ⟨.hbm, 296, rfl⟩
abbrev main_call14_v3 : Ref sig .tc := ⟨.hbm, 297, rfl⟩
abbrev main_call14_cst_0 : Ref sig .tc := ⟨.hbm, 298, rfl⟩
abbrev main_call14_v4 : Ref sig .tc := ⟨.hbm, 299, rfl⟩
abbrev main_call14_v5 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_c_26 : Ref sig .tc := ⟨.hbm, 307, rfl⟩
abbrev main_v194 : Ref sig .tc := ⟨.hbm, 308, rfl⟩
abbrev main_v195 : Ref sig .tc := ⟨.hbm, 309, rfl⟩
abbrev main_cst_27 : Ref sig .tc := ⟨.hbm, 310, rfl⟩
abbrev main_call15_v0 : Ref sig .tc := ⟨.hbm, 311, rfl⟩
abbrev main_call15_v1 : Ref sig .tc := ⟨.hbm, 312, rfl⟩
abbrev main_v196 : Ref sig .tc := ⟨.hbm, 313, rfl⟩
abbrev main_cst_28 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_v203 : Ref sig .tc := ⟨.hbm, 321, rfl⟩
abbrev main_v204 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_call16_v0 : Ref sig .tc := ⟨.hbm, 328, rfl⟩
abbrev main_call16_v1 : Ref sig .tc := ⟨.hbm, 329, rfl⟩
abbrev main_call16_cst : Ref sig .tc := ⟨.hbm, 330, rfl⟩
abbrev main_call16_v2 : Ref sig .tc := ⟨.hbm, 331, rfl⟩
abbrev main_call16_v3 : Ref sig .tc := ⟨.hbm, 332, rfl⟩
abbrev main_call16_cst_0 : Ref sig .tc := ⟨.hbm, 333, rfl⟩
abbrev main_call16_v4 : Ref sig .tc := ⟨.hbm, 334, rfl⟩
abbrev main_call16_v5 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_c_29 : Ref sig .tc := ⟨.hbm, 342, rfl⟩
abbrev main_v216 : Ref sig .tc := ⟨.hbm, 343, rfl⟩
abbrev main_v217 : Ref sig .tc := ⟨.hbm, 344, rfl⟩
abbrev main_cst_30 : Ref sig .tc := ⟨.hbm, 345, rfl⟩
abbrev main_call17_v0 : Ref sig .tc := ⟨.hbm, 346, rfl⟩
abbrev main_call17_v1 : Ref sig .tc := ⟨.hbm, 347, rfl⟩
abbrev main_v218 : Ref sig .tc := ⟨.hbm, 348, rfl⟩
abbrev main_cst_31 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_call18_v0 : Ref sig .tc := ⟨.hbm, 363, rfl⟩
abbrev main_call18_v1 : Ref sig .tc := ⟨.hbm, 364, rfl⟩
abbrev main_call18_cst : Ref sig .tc := ⟨.hbm, 365, rfl⟩
abbrev main_call18_v2 : Ref sig .tc := ⟨.hbm, 366, rfl⟩
abbrev main_call18_v3 : Ref sig .tc := ⟨.hbm, 367, rfl⟩
abbrev main_call18_cst_0 : Ref sig .tc := ⟨.hbm, 368, rfl⟩
abbrev main_call18_v4 : Ref sig .tc := ⟨.hbm, 369, rfl⟩
abbrev main_call18_v5 : Ref sig .tc := ⟨.hbm, 370, rfl⟩
abbrev main_v232 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_c_32 : Ref sig .tc := ⟨.hbm, 377, rfl⟩
abbrev main_v238 : Ref sig .tc := ⟨.hbm, 378, rfl⟩
abbrev main_v239 : Ref sig .tc := ⟨.hbm, 379, rfl⟩
abbrev main_cst_33 : Ref sig .tc := ⟨.hbm, 380, rfl⟩
abbrev main_call19_v0 : Ref sig .tc := ⟨.hbm, 381, rfl⟩
abbrev main_call19_v1 : Ref sig .tc := ⟨.hbm, 382, rfl⟩
abbrev main_v240 : Ref sig .tc := ⟨.hbm, 383, rfl⟩
abbrev main_cst_34 : Ref sig .tc := ⟨.hbm, 384, rfl⟩
abbrev main_v241 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_v245 : Ref sig .tc := ⟨.hbm, 389, rfl⟩
abbrev main_v246 : Ref sig .tc := ⟨.hbm, 390, rfl⟩
abbrev main_v247 : Ref sig .tc := ⟨.hbm, 391, rfl⟩
abbrev main_v248 : Ref sig .tc := ⟨.hbm, 392, rfl⟩
abbrev main_v249 : Ref sig .tc := ⟨.hbm, 393, rfl⟩
abbrev main_v250 : Ref sig .tc := ⟨.hbm, 394, rfl⟩
abbrev main_v251 : Ref sig .tc := ⟨.hbm, 395, rfl⟩
abbrev main_v252 : Ref sig .tc := ⟨.hbm, 396, rfl⟩
abbrev main_v253 : Ref sig .tc := ⟨.hbm, 397, rfl⟩
abbrev main_call20_v0 : Ref sig .tc := ⟨.hbm, 398, rfl⟩
abbrev main_call20_v1 : Ref sig .tc := ⟨.hbm, 399, rfl⟩
abbrev main_call20_cst : Ref sig .tc := ⟨.hbm, 400, rfl⟩
abbrev main_call20_v2 : Ref sig .tc := ⟨.hbm, 401, rfl⟩
abbrev main_call20_v3 : Ref sig .tc := ⟨.hbm, 402, rfl⟩
abbrev main_call20_cst_0 : Ref sig .tc := ⟨.hbm, 403, rfl⟩
abbrev main_call20_v4 : Ref sig .tc := ⟨.hbm, 404, rfl⟩
abbrev main_call20_v5 : Ref sig .tc := ⟨.hbm, 405, rfl⟩
abbrev main_v254 : Ref sig .tc := ⟨.hbm, 406, rfl⟩
abbrev main_v255 : Ref sig .tc := ⟨.hbm, 407, rfl⟩
abbrev main_v256 : Ref sig .tc := ⟨.hbm, 408, rfl⟩
abbrev main_v257 : Ref sig .tc := ⟨.hbm, 409, rfl⟩
abbrev main_v258 : Ref sig .tc := ⟨.hbm, 410, rfl⟩
abbrev main_v259 : Ref sig .tc := ⟨.hbm, 411, rfl⟩
abbrev main_c_35 : Ref sig .tc := ⟨.hbm, 412, rfl⟩
abbrev main_v260 : Ref sig .tc := ⟨.hbm, 413, rfl⟩
abbrev main_v261 : Ref sig .tc := ⟨.hbm, 414, rfl⟩
abbrev main_cst_36 : Ref sig .tc := ⟨.hbm, 415, rfl⟩
abbrev main_call21_v0 : Ref sig .tc := ⟨.hbm, 416, rfl⟩
abbrev main_call21_v1 : Ref sig .tc := ⟨.hbm, 417, rfl⟩
abbrev main_v262 : Ref sig .tc := ⟨.hbm, 418, rfl⟩
abbrev main_cst_37 : Ref sig .tc := ⟨.hbm, 419, rfl⟩
abbrev main_v263 : Ref sig .tc := ⟨.hbm, 420, rfl⟩
abbrev main_v264 : Ref sig .tc := ⟨.hbm, 421, rfl⟩
abbrev main_v265 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_call22_v0 : Ref sig .tc := ⟨.hbm, 433, rfl⟩
abbrev main_call22_v1 : Ref sig .tc := ⟨.hbm, 434, rfl⟩
abbrev main_call22_cst : Ref sig .tc := ⟨.hbm, 435, rfl⟩
abbrev main_call22_v2 : Ref sig .tc := ⟨.hbm, 436, rfl⟩
abbrev main_call22_v3 : Ref sig .tc := ⟨.hbm, 437, rfl⟩
abbrev main_call22_cst_0 : Ref sig .tc := ⟨.hbm, 438, rfl⟩
abbrev main_call22_v4 : Ref sig .tc := ⟨.hbm, 439, rfl⟩
abbrev main_call22_v5 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_v280 : Ref sig .tc := ⟨.hbm, 445, rfl⟩
abbrev main_v281 : Ref sig .tc := ⟨.hbm, 446, rfl⟩
abbrev main_c_38 : Ref sig .tc := ⟨.hbm, 447, rfl⟩
abbrev main_v282 : Ref sig .tc := ⟨.hbm, 448, rfl⟩
abbrev main_v283 : Ref sig .tc := ⟨.hbm, 449, rfl⟩
abbrev main_cst_39 : Ref sig .tc := ⟨.hbm, 450, rfl⟩
abbrev main_call23_v0 : Ref sig .tc := ⟨.hbm, 451, rfl⟩
abbrev main_call23_v1 : Ref sig .tc := ⟨.hbm, 452, rfl⟩
abbrev main_v284 : Ref sig .tc := ⟨.hbm, 453, rfl⟩
abbrev main_cst_40 : Ref sig .tc := ⟨.hbm, 454, rfl⟩
abbrev main_v285 : Ref sig .tc := ⟨.hbm, 455, rfl⟩
abbrev main_v286 : Ref sig .tc := ⟨.hbm, 456, rfl⟩
abbrev main_v287 : Ref sig .tc := ⟨.hbm, 457, rfl⟩
abbrev main_v288 : Ref sig .tc := ⟨.hbm, 458, rfl⟩
abbrev main_v289 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_v293 : Ref sig .tc := ⟨.hbm, 463, rfl⟩
abbrev main_v294 : Ref sig .tc := ⟨.hbm, 464, rfl⟩
abbrev main_v295 : Ref sig .tc := ⟨.hbm, 465, rfl⟩
abbrev main_v296 : Ref sig .tc := ⟨.hbm, 466, rfl⟩
abbrev main_v297 : Ref sig .tc := ⟨.hbm, 467, rfl⟩
abbrev main_call24_v0 : Ref sig .tc := ⟨.hbm, 468, rfl⟩
abbrev main_call24_v1 : Ref sig .tc := ⟨.hbm, 469, rfl⟩
abbrev main_call24_cst : Ref sig .tc := ⟨.hbm, 470, rfl⟩
abbrev main_call24_v2 : Ref sig .tc := ⟨.hbm, 471, rfl⟩
abbrev main_call24_v3 : Ref sig .tc := ⟨.hbm, 472, rfl⟩
abbrev main_call24_cst_0 : Ref sig .tc := ⟨.hbm, 473, rfl⟩
abbrev main_call24_v4 : Ref sig .tc := ⟨.hbm, 474, rfl⟩
abbrev main_call24_v5 : Ref sig .tc := ⟨.hbm, 475, rfl⟩
abbrev main_v298 : Ref sig .tc := ⟨.hbm, 476, rfl⟩
abbrev main_v299 : Ref sig .tc := ⟨.hbm, 477, rfl⟩
abbrev main_v300 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_c_41 : Ref sig .tc := ⟨.hbm, 482, rfl⟩
abbrev main_v304 : Ref sig .tc := ⟨.hbm, 483, rfl⟩
abbrev main_v305 : Ref sig .tc := ⟨.hbm, 484, rfl⟩
abbrev main_cst_42 : Ref sig .tc := ⟨.hbm, 485, rfl⟩
abbrev main_call25_v0 : Ref sig .tc := ⟨.hbm, 486, rfl⟩
abbrev main_call25_v1 : Ref sig .tc := ⟨.hbm, 487, rfl⟩
abbrev main_v306 : Ref sig .tc := ⟨.hbm, 488, rfl⟩
abbrev main_cst_43 : Ref sig .tc := ⟨.hbm, 489, rfl⟩
abbrev main_v307 : Ref sig .tc := ⟨.hbm, 490, rfl⟩
abbrev main_v308 : Ref sig .tc := ⟨.hbm, 491, rfl⟩
abbrev main_v309 : Ref sig .tc := ⟨.hbm, 492, rfl⟩
abbrev main_v310 : Ref sig .tc := ⟨.hbm, 493, rfl⟩
abbrev main_v311 : Ref sig .tc := ⟨.hbm, 494, rfl⟩
abbrev main_v312 : Ref sig .tc := ⟨.hbm, 495, rfl⟩
abbrev main_v313 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_v317 : Ref sig .tc := ⟨.hbm, 500, rfl⟩
abbrev main_v318 : Ref sig .tc := ⟨.hbm, 501, rfl⟩
abbrev main_v319 : Ref sig .tc := ⟨.hbm, 502, rfl⟩
abbrev main_call26_v0 : Ref sig .tc := ⟨.hbm, 503, rfl⟩
abbrev main_call26_v1 : Ref sig .tc := ⟨.hbm, 504, rfl⟩
abbrev main_call26_cst : Ref sig .tc := ⟨.hbm, 505, rfl⟩
abbrev main_call26_v2 : Ref sig .tc := ⟨.hbm, 506, rfl⟩
abbrev main_call26_v3 : Ref sig .tc := ⟨.hbm, 507, rfl⟩
abbrev main_call26_cst_0 : Ref sig .tc := ⟨.hbm, 508, rfl⟩
abbrev main_call26_v4 : Ref sig .tc := ⟨.hbm, 509, rfl⟩
abbrev main_call26_v5 : Ref sig .tc := ⟨.hbm, 510, rfl⟩
abbrev main_v320 : Ref sig .tc := ⟨.hbm, 511, rfl⟩
abbrev main_v321 : Ref sig .tc := ⟨.hbm, 512, rfl⟩
abbrev main_v322 : Ref sig .tc := ⟨.hbm, 513, rfl⟩
abbrev main_v323 : Ref sig .tc := ⟨.hbm, 514, rfl⟩
abbrev main_v324 : Ref sig .tc := ⟨.hbm, 515, rfl⟩
abbrev main_v325 : Ref sig .tc := ⟨.hbm, 516, rfl⟩
abbrev main_c_44 : Ref sig .tc := ⟨.hbm, 517, rfl⟩
abbrev main_v326 : Ref sig .tc := ⟨.hbm, 518, rfl⟩
abbrev main_v327 : Ref sig .tc := ⟨.hbm, 519, rfl⟩
abbrev main_cst_45 : Ref sig .tc := ⟨.hbm, 520, rfl⟩
abbrev main_call27_v0 : Ref sig .tc := ⟨.hbm, 521, rfl⟩
abbrev main_call27_v1 : Ref sig .tc := ⟨.hbm, 522, rfl⟩
abbrev main_v328 : Ref sig .tc := ⟨.hbm, 523, rfl⟩
abbrev main_cst_46 : Ref sig .tc := ⟨.hbm, 524, rfl⟩
abbrev main_v329 : Ref sig .tc := ⟨.hbm, 525, rfl⟩
abbrev main_v330 : Ref sig .tc := ⟨.hbm, 526, rfl⟩
abbrev main_v331 : Ref sig .tc := ⟨.hbm, 527, rfl⟩
abbrev main_v332 : Ref sig .tc := ⟨.hbm, 528, rfl⟩
abbrev main_v333 : Ref sig .tc := ⟨.hbm, 529, rfl⟩
abbrev main_v334 : Ref sig .tc := ⟨.hbm, 530, rfl⟩
abbrev main_v335 : Ref sig .tc := ⟨.hbm, 531, rfl⟩
abbrev main_v336 : Ref sig .tc := ⟨.hbm, 532, rfl⟩
abbrev main_v337 : Ref sig .tc := ⟨.hbm, 533, rfl⟩
abbrev main_v338 : Ref sig .tc := ⟨.hbm, 534, rfl⟩
abbrev main_v339 : Ref sig .tc := ⟨.hbm, 535, rfl⟩
abbrev main_v340 : Ref sig .tc := ⟨.hbm, 536, rfl⟩
abbrev main_v341 : Ref sig .tc := ⟨.hbm, 537, rfl⟩
abbrev main_call28_v0 : Ref sig .tc := ⟨.hbm, 538, rfl⟩
abbrev main_call28_v1 : Ref sig .tc := ⟨.hbm, 539, rfl⟩
abbrev main_call28_cst : Ref sig .tc := ⟨.hbm, 540, rfl⟩
abbrev main_call28_v2 : Ref sig .tc := ⟨.hbm, 541, rfl⟩
abbrev main_call28_v3 : Ref sig .tc := ⟨.hbm, 542, rfl⟩
abbrev main_call28_cst_0 : Ref sig .tc := ⟨.hbm, 543, rfl⟩
abbrev main_call28_v4 : Ref sig .tc := ⟨.hbm, 544, rfl⟩
abbrev main_call28_v5 : Ref sig .tc := ⟨.hbm, 545, rfl⟩
abbrev main_v342 : Ref sig .tc := ⟨.hbm, 546, rfl⟩
abbrev main_v343 : Ref sig .tc := ⟨.hbm, 547, rfl⟩
abbrev main_v344 : Ref sig .tc := ⟨.hbm, 548, rfl⟩
abbrev main_v345 : Ref sig .tc := ⟨.hbm, 549, rfl⟩
abbrev main_v346 : Ref sig .tc := ⟨.hbm, 550, rfl⟩
abbrev main_v347 : Ref sig .tc := ⟨.hbm, 551, rfl⟩
abbrev main_c_47 : Ref sig .tc := ⟨.hbm, 552, rfl⟩
abbrev main_v348 : Ref sig .tc := ⟨.hbm, 553, rfl⟩
abbrev main_v349 : Ref sig .tc := ⟨.hbm, 554, rfl⟩
abbrev main_cst_48 : Ref sig .tc := ⟨.hbm, 555, rfl⟩
abbrev main_call29_v0 : Ref sig .tc := ⟨.hbm, 556, rfl⟩
abbrev main_call29_v1 : Ref sig .tc := ⟨.hbm, 557, rfl⟩
abbrev main_v350 : Ref sig .tc := ⟨.hbm, 558, rfl⟩
abbrev main_cst_49 : Ref sig .tc := ⟨.hbm, 559, rfl⟩
abbrev main_v351 : Ref sig .tc := ⟨.hbm, 560, rfl⟩
abbrev main_v352 : Ref sig .tc := ⟨.hbm, 561, rfl⟩
abbrev main_v353 : Ref sig .tc := ⟨.hbm, 562, rfl⟩
abbrev main_v354 : Ref sig .tc := ⟨.hbm, 563, rfl⟩
abbrev main_v355 : Ref sig .tc := ⟨.hbm, 564, rfl⟩
abbrev main_v356 : Ref sig .tc := ⟨.hbm, 565, rfl⟩
abbrev main_v357 : Ref sig .tc := ⟨.hbm, 566, rfl⟩
abbrev main_v358 : Ref sig .tc := ⟨.hbm, 567, rfl⟩
abbrev main_v359 : Ref sig .tc := ⟨.hbm, 568, rfl⟩
abbrev main_v360 : Ref sig .tc := ⟨.hbm, 569, rfl⟩
abbrev main_v361 : Ref sig .tc := ⟨.hbm, 570, rfl⟩
abbrev main_v362 : Ref sig .tc := ⟨.hbm, 571, rfl⟩
abbrev main_v363 : Ref sig .tc := ⟨.hbm, 572, rfl⟩
abbrev main_call30_v0 : Ref sig .tc := ⟨.hbm, 573, rfl⟩
abbrev main_call30_v1 : Ref sig .tc := ⟨.hbm, 574, rfl⟩
abbrev main_call30_cst : Ref sig .tc := ⟨.hbm, 575, rfl⟩
abbrev main_call30_v2 : Ref sig .tc := ⟨.hbm, 576, rfl⟩
abbrev main_call30_v3 : Ref sig .tc := ⟨.hbm, 577, rfl⟩
abbrev main_call30_cst_0 : Ref sig .tc := ⟨.hbm, 578, rfl⟩
abbrev main_call30_v4 : Ref sig .tc := ⟨.hbm, 579, rfl⟩
abbrev main_call30_v5 : Ref sig .tc := ⟨.hbm, 580, rfl⟩
abbrev main_v364 : Ref sig .tc := ⟨.hbm, 581, rfl⟩
abbrev main_v365 : Ref sig .tc := ⟨.hbm, 582, rfl⟩
abbrev main_v366 : Ref sig .tc := ⟨.hbm, 583, rfl⟩
abbrev main_v367 : Ref sig .tc := ⟨.hbm, 584, rfl⟩
abbrev main_v368 : Ref sig .tc := ⟨.hbm, 585, rfl⟩
abbrev main_v369 : Ref sig .tc := ⟨.hbm, 586, rfl⟩
abbrev main_c_50 : Ref sig .tc := ⟨.hbm, 587, rfl⟩
abbrev main_v370 : Ref sig .tc := ⟨.hbm, 588, rfl⟩
abbrev main_v371 : Ref sig .tc := ⟨.hbm, 589, rfl⟩
abbrev main_cst_51 : Ref sig .tc := ⟨.hbm, 590, rfl⟩
abbrev main_call31_v0 : Ref sig .tc := ⟨.hbm, 591, rfl⟩
abbrev main_call31_v1 : Ref sig .tc := ⟨.hbm, 592, rfl⟩
abbrev main_v372 : Ref sig .tc := ⟨.hbm, 593, rfl⟩
abbrev main_cst_52 : Ref sig .tc := ⟨.hbm, 594, rfl⟩
abbrev main_v373 : Ref sig .tc := ⟨.hbm, 595, rfl⟩
abbrev main_v374 : Ref sig .tc := ⟨.hbm, 596, rfl⟩
abbrev main_v375 : Ref sig .tc := ⟨.hbm, 597, rfl⟩
abbrev main_v376 : Ref sig .tc := ⟨.hbm, 598, rfl⟩
abbrev main_v377 : Ref sig .tc := ⟨.hbm, 599, rfl⟩
abbrev main_v378 : Ref sig .tc := ⟨.hbm, 600, rfl⟩

abbrev nD : Nat := 1
abbrev τ : Topo := Topo.v7x

variable {F : FTy → Type} [FloatOps F]
-- ==== Proof.TopTwo.lean ====
/- The two greatest entries of a row of sixteen scores, found in two ways: by two rounds of "the maximum, the first
   position that attains it, that position struck out", and by a stable descending sort. Both find the same positions. -/
module

public import Idealize.ShloMosaic.Lib.SortPrefix
public import Idealize.ShloMosaic.Lib.SortNet.Extract
public import Idealize.ShloMosaic.PureOps.Ideal.Laws

@[expose] public section

noncomputable section

namespace MoeProof

open Idealize.ShloMosaic

/-! ## A stable sort breaks ties by position -/

/-- A stable sort of an increasing list of positions is not changed when its comparator also puts the earlier of two
    positions with equal keys first. -/
theorem stableSort_tie {n : Nat} (R T : Fin n → Fin n → Bool) (l : List (Fin n)) (hl : l.Pairwise (· < ·)) :
    stableSort R l = stableSort (fun a b => R a b || (T a b && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.mpr hab.le]

/-- The comparator "greater score first, of equal scores the lower position first". -/
def ahead (s : Fin 16 → EReal) (a b : Fin 16) : Bool :=
  decide (s b < s a) || (decide (s a = s b) && decide (a < b))

/-- It orders the positions strictly and totally. -/
theorem ahead_total (s : Fin 16 → EReal) : StrictTotalBefore (ahead s) :=
  StrictTotalBefore.of_key_then_position (fun x y : EReal => decide (y < x)) s (fun a => by simp)
    (fun a b c h₁ h₂ => by simp only [decide_eq_true_eq] at *; exact h₂.trans h₁)
    (fun a b => by simp only [decide_eq_true_eq]; rcases lt_trichotomy a b with h | h | h <;> simp [h])

/-- The position the stable descending sort puts at place `i`. -/
def place (s : Fin 16 → EReal) (i : Fin 16) : Fin 16 :=
  sortedFrom (fun a b => decide (s b < s a)) i

/-- Comparators that sort alike put the same position at each place. -/
theorem sortedFrom_of_sort {n : Nat} {R B : Fin n → Fin n → Bool} (h : sortPositions n R = sortPositions n B) :
    sortedFrom R = sortedFrom B := by
  funext i
  unfold sortedFrom
  exact (List.get_of_eq h _).trans rfl

theorem place_eq (s : Fin 16 → EReal) : place s = sortedFrom (ahead s) :=
  sortedFrom_of_sort (stableSort_tie _ (fun a b => decide (s a = s b)) _ (List.pairwise_lt_finRange 16))

/-- An earlier place holds a position that is ahead of a later place's. -/
theorem place_ahead (s : Fin 16 → EReal) (i j : Fin 16) (hij : i < j) : ahead s (place s i) (place s j) = true := by
  have hT := ahead_total s
  rw [place_eq]
  have hf := sortedFrom_noInversion (ahead s) (ahead s) (fun a b h => hT.asymm a b h) (fun _ _ h => h) hT.negTrans i j hij
  have hne : sortedFrom (ahead s) i ≠ sortedFrom (ahead s) j := fun h => (ne_of_lt hij) (sortedFrom_injective _ h)
  rcases hT.total _ _ hne with h | h
  · exact h
  · rw [h] at hf; exact absurd hf (by decide)

/-- The position of the greatest score. -/
abbrev best (s : Fin 16 → EReal) : Fin 16 := place s 0
/-- The position of the second greatest score. -/
abbrev next (s : Fin 16 → EReal) : Fin 16 := place s 1

theorem best_ahead (s : Fin 16 → EReal) (q : Fin 16) (hq : q ≠ best s) : ahead s (best s) q = true := by
  obtain ⟨j, rfl⟩ : ∃ j, place s j = q := by rw [place_eq]; exact sortedFrom_surjective _ q
  refine place_ahead s 0 j (Fin.pos_of_ne_zero fun h => hq (by rw [h]))

theorem next_ahead (s : Fin 16 → EReal) (q : Fin 16) (hq : q ≠ best s) (hq' : q ≠ next s) : ahead s (next s) q = true := by
  obtain ⟨j, rfl⟩ : ∃ j, place s j = q := by rw [place_eq]; exact sortedFrom_surjective _ q
  refine place_ahead s 1 j ?_
  have h0 : j ≠ 0 := fun h => hq (by rw [h])
  have h1 : j ≠ 1 := fun h => hq' (by rw [h])
  have h0' : j.val ≠ 0 := fun h => h0 (Fin.ext h)
  have h1' : j.val ≠ 1 := fun h => h1 (Fin.ext h)
  exact Fin.lt_def.mpr (by show 1 < j.val; omega)

theorem next_ne_best (s : Fin 16 → EReal) : next s ≠ best s := by
  intro h
  have := place_ahead s 0 1 (by decide)
  rw [show place s 1 = place s 0 from h, (ahead_total s).irrefl] at this
  exact absurd this (by decide)

/-- What being ahead says: at least as great, and of equal scores at the lower position. -/
theorem ahead_le {s : Fin 16 → EReal} {a b : Fin 16} (h : ahead s a b = true) : s b ≤ s a ∧ (s b = s a → a < b) := by
  unfold ahead at h
  simp only [Bool.or_eq_true, Bool.and_eq_true, decide_eq_true_eq] at h
  rcases h with h | ⟨h, hl⟩
  · exact ⟨h.le, fun e => absurd h (e ▸ lt_irrefl _)⟩
  · exact ⟨h.ge, fun _ => hl⟩

/-! ## Maximum and first position -/

/-- The greatest of sixteen entries. -/
def rowMax (s : Fin 16 → EReal) : EReal := Finset.univ.fold max ⊥ s

theorem rowMax_eq {s : Fin 16 → EReal} {p : Fin 16} (h : ∀ q, s q ≤ s p) : rowMax s = s p := by
  unfold rowMax
  refine le_antisymm ?_ ?_
  · exact (Finset.fold_max_le _).mpr ⟨bot_le, fun q _ => h q⟩
  · exact (Finset.le_fold_max _).mpr (Or.inr ⟨p, Finset.mem_univ p, le_rfl⟩)

/-- The least position, as a word, at which the entry is `v`; words that are not such a position count as 16. -/
def firstAt (s : Fin 16 → EReal) (v : EReal) : BitVec 32 :=
  Finset.univ.fold IntOp.minsi 2147483647#32 fun k : Fin 16 => if s k = v then BitVec.ofNat 32 k.val else 16#32

/-- The minimum of sixteen words, read as a number: it is at most each of them and is one of them or the start. -/
theorem toInt_fold_minsi (f : Fin 16 → BitVec 32) (i : BitVec 32) (S : Finset (Fin 16)) :
    (S.fold IntOp.minsi i f).toInt = S.fold min i.toInt fun k => (f k).toInt := by
  induction S using Finset.cons_induction with
  | empty => rfl
  | cons a S ha ih => rw [Finset.fold_cons, Finset.fold_cons, ← ih, SortNet.toInt_minsi]

theorem toInt_pos (k : Fin 16) : (BitVec.ofNat 32 k.val).toInt = k.val := by
  revert k; decide

theorem firstAt_eq {s : Fin 16 → EReal} {v : EReal} {p : Fin 16} (hp : s p = v) (h : ∀ q, s q = v → p ≤ q) :
    firstAt s v = BitVec.ofNat 32 p.val := by
  apply BitVec.eq_of_toInt_eq
  unfold firstAt
  rw [toInt_fold_minsi, toInt_pos]
  refine le_antisymm ?_ ?_
  · refine (Finset.fold_min_le _).mpr (Or.inr ⟨p, Finset.mem_univ p, ?_⟩)
    rw [if_pos hp, toInt_pos]
  · refine (Finset.le_fold_min _).mpr ⟨?_, fun q _ => ?_⟩
    · have := p.isLt
      rw [show (2147483647#32 : BitVec 32).toInt = 2147483647 by decide]; omega
    · by_cases hq : s q = v
      · rw [if_pos hq, toInt_pos]; exact_mod_cast h q hq
      · have := p.isLt
        rw [if_neg hq, show (16#32 : BitVec 32).toInt = 16 by decide]; omega

/-! ## The two rounds -/

/-- The row with the entry at the word `w` struck out (set to −1). -/
def strike (s : Fin 16 → EReal) (w : BitVec 32) (k : Fin 16) : EReal := if BitVec.ofNat 32 k.val = w then -1 else s k

theorem word_inj {a b : Fin 16} : BitVec.ofNat 32 a.val = BitVec.ofNat 32 b.val ↔ a = b := by
  revert a b; decide

/-- The first round finds the sort's first place. -/
theorem round_one (s : Fin 16 → EReal) : rowMax s = s (best s) ∧ firstAt s (rowMax s) = BitVec.ofNat 32 (best s).val := by
  have hm : rowMax s = s (best s) := rowMax_eq fun q => by
    by_cases hq : q = best s
    · rw [hq]
    · exact (ahead_le (best_ahead s q hq)).1
  refine ⟨hm, firstAt_eq hm.symm fun q hq => ?_⟩
  by_cases h : q = best s
  · exact h.ge
  · exact ((ahead_le (best_ahead s q h)).2 (hq.trans hm)).le

/-- For scores that are not negative the second round finds the sort's second place. -/
theorem round_two (s : Fin 16 → EReal) (h0 : ∀ k, 0 ≤ s k) :
    let r := strike s (BitVec.ofNat 32 (best s).val)
    rowMax r = s (next s) ∧ firstAt r (rowMax r) = BitVec.ofNat 32 (next s).val := by
  intro r
  have hb : r (best s) = -1 := if_pos rfl
  have ho : ∀ q, q ≠ best s → r q = s q := fun q hq => if_neg fun h => hq (word_inj.mp h)
  have hn : r (next s) = s (next s) := ho _ (next_ne_best s)
  have hneg : (-1 : EReal) < 0 := by
    rw [show (-1 : EReal) = ((-1 : ℝ) : EReal) by simp, ← EReal.coe_zero, EReal.coe_lt_coe_iff]; norm_num
  have hm : rowMax r = r (next s) := rowMax_eq fun q => by
    by_cases hq : q = best s
    · rw [hq, hb, hn]; exact hneg.le.trans (h0 _)
    · by_cases hq' : q = next s
      · rw [hq']
      · rw [ho q hq, hn]; exact (ahead_le (next_ahead s q hq hq')).1
  refine ⟨hm.trans hn, firstAt_eq hm.symm fun q hq => ?_⟩
  rw [hm, hn] at hq
  by_cases h : q = best s
  · rw [h, hb] at hq
    exact absurd (hq ▸ h0 (next s)) (not_le.mpr hneg)
  · by_cases h' : q = next s
    · exact h'.ge
    · rw [ho q h] at hq
      exact ((ahead_le (next_ahead s q h h')).2 hq).le

end MoeProof

end
-- ==== Proof.Router.lean ====
/- The router's row arithmetic on extended reals: the softmax of sixteen finite logits is positive and finite, and the
   coefficients the two rounds of "maximum, first position" give are those of the sort's first two places, weighted by
   the softmax of the two scores. -/
module

public import proofs.«01_k».proof.Proof.TopTwo

@[expose] public section

noncomputable section

namespace MoeProof

open Idealize.ShloMosaic

/-! ## Finite sums of reals -/

/-- A sum of real numbers is a real number. -/
theorem sum_real {ι : Type} (S : Finset ι) (f : ι → ℝ) : (∑ i ∈ S, (f i : EReal)) = ((∑ i ∈ S, f i : ℝ) : EReal) := by
  classical
  induction S using Finset.cons_induction with
  | empty => simp
  | cons a S ha ih => rw [Finset.sum_cons, Finset.sum_cons, ih, EReal.coe_add]

/-- A finite factor that is not negative distributes over a sum of any extended reals. -/
theorem mul_sum_of_finite {ι : Type} (S : Finset ι) (c : EReal) (h0 : 0 ≤ c) (ht : c ≠ ⊤) (f : ι → EReal) :
    c * (∑ i ∈ S, f i) = ∑ i ∈ S, c * f i := by
  classical
  induction S using Finset.cons_induction with
  | empty => simp
  | cons a S ha ih => rw [Finset.sum_cons, Finset.sum_cons, EReal.left_distrib_of_nonneg_of_ne_top h0 ht, ih]

/-! ## The softmax over the experts -/

/-- The softmax of a row of logits, its maximum subtracted. -/
def score (l : Fin 16 → EReal) (k : Fin 16) : EReal :=
  Ideal.div (Ideal.exp (l k - rowMax l)) (∑ j, Ideal.exp (l j - rowMax l))

/-- The quotient of a real and a positive real. -/
theorem div_real (a b : ℝ) (hb : 0 < b) : Ideal.div (a : EReal) (b : EReal) = ((a / b : ℝ) : EReal) := by
  rw [Ideal.div_coe hb.ne', ← EReal.coe_mul]; congr 1; ring

/-- The maximum of real numbers is one of them. -/
theorem rowMax_real (r : Fin 16 → ℝ) : ∃ p, rowMax (fun k => (r k : EReal)) = (r p : EReal) := by
  obtain ⟨p, -, hp⟩ := Finset.exists_max_image Finset.univ r ⟨0, Finset.mem_univ _⟩
  exact ⟨p, rowMax_eq fun q => EReal.coe_le_coe_iff.mpr (hp q (Finset.mem_univ q))⟩

/-- Of finite logits the scores are positive real numbers. -/
theorem score_real (r : Fin 16 → ℝ) (k : Fin 16) : ∃ q : ℝ, 0 < q ∧ score (fun k => (r k : EReal)) k = (q : EReal) := by
  obtain ⟨p, hp⟩ := rowMax_real r
  unfold score
  simp only [hp, ← EReal.coe_sub, Ideal.exp_coe, sum_real]
  have hs : 0 < ∑ j, Real.exp (r j - r p) := Finset.sum_pos (fun j _ => Real.exp_pos _) ⟨0, Finset.mem_univ _⟩
  exact ⟨_, div_pos (Real.exp_pos _) hs, div_real _ _ hs⟩

/-! ## The coefficients -/

/-- A coefficient of the two rounds: the first weight at the first position, the second weight at the second, zero
    elsewhere. The weights are those of the two maxima `m₁`, `m₂`. -/
def coefOf (m₁ m₂ : EReal) (w₁ w₂ : BitVec 32) (k : Fin 16) : EReal :=
  (if BitVec.ofNat 32 k.val = w₁ then Ideal.div 1 (1 + Ideal.exp (m₂ - m₁)) else 0)
    + (if BitVec.ofNat 32 k.val = w₂ then Ideal.div (Ideal.exp (m₂ - m₁)) (1 + Ideal.exp (m₂ - m₁)) else 0)

/-- The coefficients the two rounds find for a row of scores. -/
def coefRounds (s : Fin 16 → EReal) : Fin 16 → EReal :=
  let r := strike s (firstAt s (rowMax s))
  coefOf (rowMax s) (rowMax r) (firstAt s (rowMax s)) (firstAt r (rowMax r))

/-- The scores at the sort's first two places. -/
def topVal (s : Fin 16 → EReal) (i : Fin 2) : EReal := s (place s (i.castLE (by decide)))

/-- The softmax of the two scores at the sort's first two places. -/
def topWeight (s : Fin 16 → EReal) (i : Fin 2) : EReal :=
  Ideal.div (Ideal.exp (topVal s i - max ⊥ (Finset.univ.fold max ⊥ (topVal s))))
    (0 + ∑ j, Ideal.exp (topVal s j - max ⊥ (Finset.univ.fold max ⊥ (topVal s))))

/-- The coefficients of the sort's first two places. -/
def coefSort (s : Fin 16 → EReal) (k : Fin 16) : EReal :=
  0 + ∑ i : Fin 2, if BitVec.ofNat 32 (place s (i.castLE (by decide))).val = BitVec.ofNat 32 k.val then topWeight s i else 0

/-- The greatest of the two top scores is the first. -/
theorem max_topVal (s : Fin 16 → EReal) : max ⊥ (Finset.univ.fold max ⊥ (topVal s)) = s (best s) := by
  have h : topVal s 1 ≤ topVal s 0 := (ahead_le (best_ahead s (next s) (next_ne_best s))).1
  have h2 : Finset.univ.fold max ⊥ (topVal s) = topVal s 0 := by
    refine le_antisymm ((Finset.fold_max_le _).mpr ⟨bot_le, fun q _ => ?_⟩)
      ((Finset.le_fold_max _).mpr (Or.inr ⟨0, Finset.mem_univ _, le_rfl⟩))
    fin_cases q
    · exact le_rfl
    · exact h
  rw [h2, max_eq_right bot_le]
  rfl

/-- Two rounds and the sort give the same coefficients when every score is a positive real number, and each coefficient
    is a finite number that is not negative. -/
theorem coef_eq (s : Fin 16 → EReal) (hs : ∀ k, ∃ q : ℝ, 0 < q ∧ s k = (q : EReal)) (k : Fin 16) :
    coefRounds s k = coefSort s k ∧ 0 ≤ coefRounds s k ∧ coefRounds s k ≠ ⊤ := by
  have h0 : ∀ k, 0 ≤ s k := fun k => by
    obtain ⟨q, hq, e⟩ := hs k; rw [e]; exact EReal.coe_nonneg.mpr hq.le
  obtain ⟨e1, e2⟩ := round_one s
  obtain ⟨e3, e4⟩ := round_two s h0
  obtain ⟨a, -, ha⟩ := hs (best s)
  obtain ⟨b, -, hb⟩ := hs (next s)
  have hw0 : topWeight s 0 = Ideal.div 1 (1 + Ideal.exp (s (next s) - s (best s))) := by
    unfold topWeight
    rw [max_topVal, Fin.sum_univ_two, zero_add]
    show Ideal.div (Ideal.exp (s (best s) - s (best s))) (Ideal.exp (s (best s) - s (best s)) + Ideal.exp (s (next s) - s (best s))) = _
    rw [show Ideal.exp (s (best s) - s (best s)) = 1 by rw [ha, ← EReal.coe_sub, Ideal.exp_coe, sub_self, Real.exp_zero, EReal.coe_one]]
  have hw1 : topWeight s 1 = Ideal.div (Ideal.exp (s (next s) - s (best s))) (1 + Ideal.exp (s (next s) - s (best s))) := by
    unfold topWeight
    rw [max_topVal, Fin.sum_univ_two, zero_add]
    show Ideal.div (Ideal.exp (s (next s) - s (best s))) (Ideal.exp (s (best s) - s (best s)) + Ideal.exp (s (next s) - s (best s))) = _
    rw [show Ideal.exp (s (best s) - s (best s)) = 1 by rw [ha, ← EReal.coe_sub, Ideal.exp_coe, sub_self, Real.exp_zero, EReal.coe_one]]
  have hk : coefRounds s k = (if BitVec.ofNat 32 k.val = BitVec.ofNat 32 (best s).val then topWeight s 0 else 0)
      + (if BitVec.ofNat 32 k.val = BitVec.ofNat 32 (next s).val then topWeight s 1 else 0) := by
    unfold coefRounds coefOf
    rw [e2, e4, e3, e1, hw0, hw1]
  have hreal : ∀ i, ∃ q : ℝ, 0 ≤ q ∧ topWeight s i = (q : EReal) := by
    have hd : (0 : ℝ) < 1 + Real.exp (b - a) := by positivity
    have hcoe : (1 : EReal) + ((Real.exp (b - a) : ℝ) : EReal) = ((1 + Real.exp (b - a) : ℝ) : EReal) := by
      rw [EReal.coe_add, EReal.coe_one]
    intro i
    fin_cases i
    · refine ⟨1 / (1 + Real.exp (b - a)), by positivity, ?_⟩
      show topWeight s 0 = _
      rw [hw0, ha, hb, ← EReal.coe_sub, Ideal.exp_coe, hcoe, ← EReal.coe_one, div_real _ _ hd]
    · refine ⟨Real.exp (b - a) / (1 + Real.exp (b - a)), by positivity, ?_⟩
      show topWeight s 1 = _
      rw [hw1, ha, hb, ← EReal.coe_sub, Ideal.exp_coe, hcoe, div_real _ _ hd]
  have hpart : ∀ (i : Fin 2) (p : Prop) [Decidable p], ∃ q : ℝ, 0 ≤ q ∧ (if p then topWeight s i else 0) = (q : EReal) := by
    intro i p _
    by_cases hp : p
    · rw [if_pos hp]; exact hreal i
    · rw [if_neg hp]; exact ⟨0, le_rfl, EReal.coe_zero.symm⟩
  refine ⟨?_, ?_⟩
  · rw [hk]
    unfold coefSort
    rw [zero_add, Fin.sum_univ_two]
    exact congrArg₂ (· + ·) (if_congr eq_comm rfl rfl) (if_congr eq_comm rfl rfl)
  · obtain ⟨x, hx, ex⟩ := hpart 0 (BitVec.ofNat 32 k.val = BitVec.ofNat 32 (best s).val)
    obtain ⟨y, hy, ey⟩ := hpart 1 (BitVec.ofNat 32 k.val = BitVec.ofNat 32 (next s).val)
    rw [hk, ex, ey, ← EReal.coe_add]
    exact ⟨EReal.coe_nonneg.mpr (add_nonneg hx hy), EReal.coe_ne_top _⟩

end MoeProof

end
-- ==== Proof.Moe.lean ====
/- The mixture of experts on plain coordinates: what the reference's sum over the experts is, what the kernel's sum over
   its 32 points is, and that they are equal when the router's inputs are finite. -/
module

public import proofs.«01_k».proof.Proof.Router

@[expose] public section

noncomputable section

namespace MoeProof

open Idealize.ShloMosaic

/-- The logit of expert `k` for token `r`. -/
def logits (x : Fin 64 → Fin 1024 → EReal) (g : Fin 16 → Fin 1024 → EReal) (r : Fin 64) (k : Fin 16) : EReal :=
  ∑ d, x r d * g k d

/-- One hidden unit of a gated expert: `t · logistic(t) · u`, where `t` and `u` are the token's products with the unit's
    two weight rows. -/
def unitOf (x : Fin 1024 → EReal) (w1 w3 : Fin 1024 → EReal) : EReal :=
  ((∑ d, x d * w1 d) * Ideal.logistic (∑ d, x d * w1 d)) * ∑ d, x d * w3 d

/-- The reference's element: over the experts, the sort's coefficient times the expert's output. -/
def refOut (x : Fin 64 → Fin 1024 → EReal) (g : Fin 16 → Fin 1024 → EReal) (w1 w3 : Fin 16 → Fin 2048 → Fin 1024 → EReal)
    (w2 : Fin 16 → Fin 1024 → Fin 2048 → EReal) (r : Fin 64) (c : Fin 1024) : EReal :=
  ∑ e, coefSort (score (logits x g r)) e * ∑ n, unitOf (x r) (w1 e n) (w3 e n) * w2 e c n

/-- The hidden unit `j` of half `h`. -/
def unitAt (h : Fin 2) (j : Fin 1024) : Fin 2048 := ⟨h.val * 1024 + j.val, by omega⟩

/-- What one point adds: half `h` of expert `e`, its units scaled by the coefficient `c`. -/
def pointTerm (c : EReal) (x : Fin 1024 → EReal) (w1 w3 : Fin 2048 → Fin 1024 → EReal) (w2 : Fin 2048 → EReal)
    (h : Fin 2) : EReal :=
  ∑ j, (unitOf x (w1 (unitAt h j)) (w3 (unitAt h j)) * c) * w2 (unitAt h j)

/-- A sum over the 2048 units is the sum over the halves and over the units of a half. -/
theorem sum_units (f : Fin 2048 → EReal) : ∑ n, f n = ∑ h : Fin 2, ∑ j : Fin 1024, f (unitAt h j) := by
  rw [← Fintype.sum_prod_type' (f := fun (h : Fin 2) (j : Fin 1024) => f (unitAt h j))]
  refine (Fintype.sum_equiv ((finProdFinEquiv (m := 2) (n := 1024)).trans (finCongr (by norm_num))) _ _ fun p => ?_).symm
  refine congrArg f (Fin.ext ?_)
  show p.1.val * 1024 + p.2.val = p.2.val + 1024 * p.1.val
  omega

/-- The two halves' terms of an expert are the coefficient times the expert's output, the coefficient being finite and not
    negative. -/
theorem sum_pointTerm (c : EReal) (h0 : 0 ≤ c) (ht : c ≠ ⊤) (x : Fin 1024 → EReal) (w1 w3 : Fin 2048 → Fin 1024 → EReal)
    (w2 : Fin 2048 → EReal) :
    ∑ h, pointTerm c x w1 w3 w2 h = c * ∑ n, unitOf x (w1 n) (w3 n) * w2 n := by
  rw [sum_units, mul_sum_of_finite _ c h0 ht]
  refine Finset.sum_congr rfl fun h _ => ?_
  rw [mul_sum_of_finite _ c h0 ht]
  refine Finset.sum_congr rfl fun j _ => ?_
  rw [mul_comm _ c, mul_assoc]

/-- The kernel's element: over the 32 points in order, point `2e + h` adding half `h` of expert `e` with the coefficient
    of the two rounds. -/
def kerOut (x : Fin 64 → Fin 1024 → EReal) (g : Fin 16 → Fin 1024 → EReal) (w1 w3 : Fin 16 → Fin 2048 → Fin 1024 → EReal)
    (w2 : Fin 16 → Fin 1024 → Fin 2048 → EReal) (r : Fin 64) (c : Fin 1024) : EReal :=
  ∑ e : Fin 16, ∑ h : Fin 2, pointTerm (coefRounds (score (logits x g r)) e) (x r) (w1 e) (w3 e) (w2 e c) h

/-- The logits of finite inputs are real numbers. -/
theorem logits_real (x : Fin 64 → Fin 1024 → EReal) (g : Fin 16 → Fin 1024 → EReal) (hx : ∀ r d, ∃ q : ℝ, x r d = q)
    (hg : ∀ k d, ∃ q : ℝ, g k d = q) (r : Fin 64) : ∃ l : Fin 16 → ℝ, logits x g r = fun k => (l k : EReal) := by
  choose a ha using hx
  choose b hb using hg
  refine ⟨fun k => ∑ d, a r d * b k d, funext fun k => ?_⟩
  unfold logits
  simp only [ha, hb, ← EReal.coe_mul, sum_real]

/-- Kernel and reference agree when the tokens and the router's weights are finite; the experts' weights may be any
    extended reals. -/
theorem kerOut_eq_refOut (x : Fin 64 → Fin 1024 → EReal) (g : Fin 16 → Fin 1024 → EReal)
    (w1 w3 : Fin 16 → Fin 2048 → Fin 1024 → EReal) (w2 : Fin 16 → Fin 1024 → Fin 2048 → EReal)
    (hx : ∀ r d, ∃ q : ℝ, x r d = q) (hg : ∀ k d, ∃ q : ℝ, g k d = q) (r : Fin 64) (c : Fin 1024) :
    kerOut x g w1 w3 w2 r c = refOut x g w1 w3 w2 r c := by
  obtain ⟨l, hl⟩ := logits_real x g hx hg r
  have hs : ∀ k, ∃ q : ℝ, 0 < q ∧ score (logits x g r) k = (q : EReal) := fun k => by rw [hl]; exact score_real l k
  unfold kerOut refOut
  refine Finset.sum_congr rfl fun e _ => ?_
  obtain ⟨h1, h2, h3⟩ := coef_eq _ hs e
  rw [sum_pointTerm _ h2 h3, h1]

end MoeProof

end
-- ==== Proof.Arrays.lean ====
/- Array arguments on plain coordinates, and the constants and choices both programs print, as extended reals. -/
module

public import Idealize.ShloMosaic.Lib.Pointwise

@[expose] public section

noncomputable section

namespace MoeProof

open Idealize.ShloMosaic

/-- A matrix argument on plain coordinates. -/
abbrev mat2 {a b : Nat} (x : FVec Ideal ⟨2, ![a, b]⟩ .f32) (i : Fin a) (j : Fin b) : EReal := x (ix2 i j)
/-- A rank-three argument on plain coordinates. -/
abbrev mat3 {a b c : Nat} (x : FVec Ideal ⟨3, ![a, b, c]⟩ .f32) (i : Fin a) (j : Fin b) (k : Fin c) : EReal := x (ix3 i j k)

/-- The pattern of −∞ reads as the least extended real. -/
theorem ofBits_negInf : Ideal.ofBits FTy.f32 0xFF800000#32 = ⊥ := by simp [Ideal.ofBits, Ideal.ieee]

/-- The pattern of −1 reads as −1. -/
theorem ofBits_negOne : Ideal.ofBits FTy.f32 0xBF800000#32 = -1 := by
  simp [Ideal.ofBits, Ideal.ieee]
  rw [← EReal.coe_mul]
  norm_num

/-- A choice by a word comparison. -/
theorem select_eq (a b : BitVec 32) (x y : EReal) : Scalar.select (IntOp.cmpi .eq a b) x y = if a = b then x else y := by
  by_cases h : a = b
  · simp [Scalar.select, IntOp.cmpi, h]
  · have h' : (a == b) = false := by simpa using h
    simp [Scalar.select, IntOp.cmpi, h, h']

/-- A choice by a comparison of extended reals for equality. -/
theorem select_oeq {α : Type} (a b : EReal) (x y : α) :
    Scalar.select (FloatOps.cmpf (F := Ideal) (φ := .f32) .oeq a b) x y = if a = b then x else y := by
  by_cases h : a = b
  · simp [Scalar.select, h, FloatOps.cmpf, Ideal.cmp]
  · simp [Scalar.select, h, FloatOps.cmpf, Ideal.cmp]

end MoeProof

end
-- ==== Proof.Block.lean ====
/- The kernel's payloads read at an index: what one grid point computes from its blocks. -/
module

public import proofs.«01_k».proof.Proof.Moe
public import proofs.«01_k».proof.Proof.Arrays
public import proofs.«01_k».proof.Proof.Gen.KernelIdeal.Skeleton

@[expose] public section

set_option maxRecDepth 16384

noncomputable section

namespace MoeProof

open Cert.KernelIdeal Cert.KernelIdeal.Gen Idealize.ShloMosaic

/-- The scores of the first point: the softmax of the token's logits. -/
theorem pay1_apply (x : FVec Ideal S64x1024 .f32) (g : FVec Ideal S16x1024 .f32) (r : Fin 64) (k : Fin 16) :
    k0_pay1 (F := Ideal) x g (ix2 r k) = score (logits (mat2 x) (mat2 g) r) k := by
  pointwise [k0_pay1]
  simp only [ofBits_negInf]
  rfl

/-- The first round's maximum. -/
theorem pay2_apply (x : FVec Ideal S64x1024 .f32) (g : FVec Ideal S16x1024 .f32) (r : Fin 64) :
    k0_pay2 (F := Ideal) x g (ix2 r 0) = rowMax (score (logits (mat2 x) (mat2 g) r)) := by
  pointwise [k0_pay2]
  simp only [ofBits_negInf, pay1_apply]
  rfl

/-- The first round's position. -/
theorem pay3_apply (x : FVec Ideal S64x1024 .f32) (g : FVec Ideal S16x1024 .f32) (r : Fin 64) :
    k0_pay3 (F := Ideal) x g (ix2 r 0) = firstAt (score (logits (mat2 x) (mat2 g) r)) (rowMax (score (logits (mat2 x) (mat2 g) r))) := by
  pointwise [k0_pay3]
  simp only [pay1_apply, pay2_apply]
  rfl

/-- The scores with the first round's position struck out. -/
theorem pay4_apply (x : FVec Ideal S64x1024 .f32) (g : FVec Ideal S16x1024 .f32) (r : Fin 64) (k : Fin 16) :
    k0_pay4 (F := Ideal) x g (ix2 r k) = strike (score (logits (mat2 x) (mat2 g) r))
      (firstAt (score (logits (mat2 x) (mat2 g) r)) (rowMax (score (logits (mat2 x) (mat2 g) r)))) k := by
  pointwise [k0_pay4]
  simp only [pay1_apply, pay3_apply, ofBits_negOne, select_eq]
  rfl

/-- The second round's maximum. -/
theorem pay5_apply (x : FVec Ideal S64x1024 .f32) (g : FVec Ideal S16x1024 .f32) (r : Fin 64) :
    k0_pay5 (F := Ideal) x g (ix2 r 0) = rowMax (strike (score (logits (mat2 x) (mat2 g) r))
      (firstAt (score (logits (mat2 x) (mat2 g) r)) (rowMax (score (logits (mat2 x) (mat2 g) r))))) := by
  pointwise [k0_pay5]
  simp only [ofBits_negInf, pay4_apply]
  rfl

/-- The second round's position. -/
theorem pay6_apply (x : FVec Ideal S64x1024 .f32) (g : FVec Ideal S16x1024 .f32) (r : Fin 64) :
    let s := strike (score (logits (mat2 x) (mat2 g) r))
      (firstAt (score (logits (mat2 x) (mat2 g) r)) (rowMax (score (logits (mat2 x) (mat2 g) r))))
    k0_pay6 (F := Ideal) x g (ix2 r 0) = firstAt s (rowMax s) := by
  intro s
  pointwise [k0_pay6]
  simp only [pay4_apply, pay5_apply]
  rfl

/-- The coefficients the first point stores: those of the two rounds. -/
theorem coef_apply (x : FVec Ideal S64x1024 .f32) (g : FVec Ideal S16x1024 .f32) (r : Fin 64) (k : Fin 16) :
    k0_pay12 (F := Ideal) (iota .tc S64x16 32 [1] iota_S64x16_d1_w32) (k0_pay6 (F := Ideal) x g) (k0_pay9 (F := Ideal) x g) (k0_pay10 (F := Ideal) x g)
        (k0_pay11 (F := Ideal) x g) (Scalar.ofBits .f32 0x00000000#32) (ix2 r k)
      = coefRounds (score (logits (mat2 x) (mat2 g) r)) k := by
  pointwise [k0_pay12, k0_pay11, k0_pay10, k0_pay9, k0_pay8, k0_pay7]
  simp only [pay2_apply, pay3_apply, pay5_apply, pay6_apply, select_eq]
  rfl

/-- Choosing one column and summing gives that column. -/
theorem sum_select (f : Fin 16 → EReal) (e : Fin 16) :
    (∑ k : Fin 16, Scalar.select (IntOp.cmpi .eq (BitVec.ofNat 32 k.val) (BitVec.ofNat 32 e.val)) (f k) 0) = f e := by
  simp only [select_eq, word_inj]
  rw [Finset.sum_ite_eq' Finset.univ e f, if_pos (Finset.mem_univ _)]

/-- What a point adds to the accumulated output: its half of an expert, scaled by the expert's coefficient. -/
theorem pay14_apply (i : grid0.Coords) (x : FVec Ideal S64x1024 .f32) (w1 w3 : FVec Ideal S1x1024x1024 .f32)
    (cf : FVec Ideal S64x16 .f32) (acc : FVec Ideal S64x1024 .f32) (w2 : FVec Ideal S1x1024x1024 .f32) (r : Fin 64) (c : Fin 1024) :
    k0_pay14 (F := Ideal) i x w1 w3 cf acc w2 (ix2 r c) = acc (ix2 r c)
      + ∑ j, (unitOf (mat2 x r) (mat3 w1 0 j) (mat3 w3 0 j) * mat2 cf r (i 0)) * mat3 w2 0 c j := by
  pointwise [k0_pay14]
  rw [sum_select (fun k => cf (ix2 r k)) (i 0)]
  rfl

end MoeProof

end
-- ==== Proof.Steps.lean ====
/- What the kernel's body leaves in its output window and in the carried coefficients: at the first point, and at a later
   point over what the point before left. -/
module

public import proofs.«01_k».proof.Proof.Block
public import proofs.«01_k».proof.Proof.Gen.KernelIdeal.Frame
public import Idealize.ShloMosaic.Lib.Pipeline.Value
public import Idealize.ShloMosaic.Lib.Tactic

@[expose] public section

set_option maxRecDepth 16384

noncomputable section

namespace MoeProof

open Cert.KernelIdeal Cert.KernelIdeal.Gen Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

/-- The coefficients the first point computes from the tokens and the router's weights. -/
abbrev coefs (x : FVec Ideal S64x1024 .f32) (g : FVec Ideal S16x1024 .f32) : FVec Ideal S64x16 .f32 :=
  k0_pay12 (F := Ideal) (iota .tc S64x16 32 [1] iota_S64x16_d1_w32) (k0_pay6 (F := Ideal) x g) (k0_pay9 (F := Ideal) x g)
    (k0_pay10 (F := Ideal) x g) (k0_pay11 (F := Ideal) x g) (Scalar.ofBits .f32 0x00000000#32)

section
variable (c : Dev nD) (i : grid0.Coords) (a2 : Memref sig .tc .vmem S64x1024 .f32) (h2 : a2.IsWhole)
  (a3 : Memref sig .tc .vmem S16x1024 .f32) (h3 : a3.IsWhole) (a4 : Memref sig .tc .vmem S1x1024x1024 .f32) (h4 : a4.IsWhole)
  (a5 : Memref sig .tc .vmem S1x1024x1024 .f32) (h5 : a5.IsWhole) (a6 : Memref sig .tc .vmem S1x1024x1024 .f32) (h6 : a6.IsWhole)
  (a7 : Memref sig .tc .vmem S64x1024 .f32) (h7 : a7.IsWhole) (a8 : Memref sig .tc .vmem S64x16 .f32) (h8 : a8.IsWhole)
  (x0 : Vec Ideal S64x1024 .f32) (x1 : Vec Ideal S16x1024 .f32) (x2 x3 x4 : Vec Ideal S1x1024x1024 .f32)

/-- The first point leaves the coefficients in the carried scratch. -/
theorem sout_A (hc : cond0_0 i) :
    sout0_A_0 (F := Ideal) c i a2 h2 a3 h3 a4 h4 a5 h5 a6 h6 a7 h7 a8 h8 hc x0 x1 x2 x3 x4 = coefs x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero zero2]
  simp only [View.readAt_eq_ld, h2.read_unread, h3.read_unread, View.ld_unit_zero (S := S64x1024) zero2, View.ld_unit_zero (S := S16x1024) zero2]

/-- The first point leaves its term over the zero array. -/
theorem out_A (hc : cond0_0 i) :
    out0_A_5 (F := Ideal) c i a2 h2 a3 h3 a4 h4 a5 h5 a6 h6 a7 h7 a8 h8 hc x0 x1 x2 x3 x4
      = k0_pay14 (F := Ideal) i x0 x2 x3 (coefs x0 x1) (k0_pay13 (F := Ideal)) x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S64x1024) zero2, View.readCov_unit_zero (S := S64x1024) _ zero2, View.readCov_unit_zero (S := S64x16) _ zero2]
  simp only [View.readAt_eq_ld, h2.read_unread, h3.read_unread, h4.read_unread, h5.read_unread, h6.read_unread,
    View.ld_unit_zero (S := S64x1024) zero2, View.ld_unit_zero (S := S16x1024) zero2, View.ld_unit_zero (S := S1x1024x1024) zero3]

/-- A later point leaves its term over what the output held. -/
theorem out_B (hc : ¬cond0_0 i) (xo : Vec Ideal S64x1024 .f32) (xs : Vec Ideal S64x16 .f32) :
    out0_B_5 (F := Ideal) c i a2 h2 a3 h3 a4 h4 a5 h5 a6 h6 a7 h7 a8 h8 hc x0 x1 x2 x3 x4 xo xs
      = k0_pay14 (F := Ideal) i x0 x2 x3 xs xo x4 := by
  unfold out0_B_5
  rw [View.read_writes_eq_canon _ _ _ (cover0_B_5 c i a2 h2 a3 h3 a4 h4 a5 h5 a6 h6 a7 h7 a8 h8 hc x0 x1 x2 x3 x4 xo xs)]
  unfold kernelRun0_B
  dsimp only
  sl_unfold_words
  rw [View.canon_unit_zero (S := S64x1024) zero2]
  simp only [View.readAt_eq_ld, h2.read_unread, h4.read_unread, h5.read_unread, h6.read_unread, h7.read_unread, h8.read_unread,
    View.ld_unit_zero (S := S64x1024) zero2, View.ld_unit_zero (S := S64x16) zero2, View.ld_unit_zero (S := S1x1024x1024) zero3]

end

end MoeProof

end
-- ==== Proof.Accum.lean ====
/- The accumulation over the grid: point n computes expert n / 2's term over half n % 2 of its hidden units, and after the
   last point the output window holds the sum of all the terms. -/
module

public import proofs.«01_k».proof.Proof.Steps
public import Idealize.ShloMosaic.Lib.StableHlo.Run

@[expose] public section

set_option maxRecDepth 16384

noncomputable section

namespace MoeProof

open Cert.KernelIdeal Cert.KernelIdeal.Gen Idealize.ShloMosaic Idealize.ShloMosaic.TcCoe

/-- The expert of point n. -/
def expertOf (n : Nat) : Fin 16 := ⟨n / 2 % 16, Nat.mod_lt _ (by decide)⟩
/-- The half of the hidden units point n takes. -/
def halfOf (n : Nat) : Fin 2 := ⟨n % 2, Nat.mod_lt _ (by decide)⟩

/-- A sum over the 32 points is the sum over the experts and the halves. -/
theorem sum_points {M : Type} [AddCommMonoid M] (f : Fin 16 → Fin 2 → M) :
    ∑ n ∈ Finset.range 32, f (expertOf n) (halfOf n) = ∑ e : Fin 16, ∑ h : Fin 2, f e h := by
  rw [Finset.sum_range, ← Fintype.sum_prod_type']
  refine (Fintype.sum_equiv (finProdFinEquiv (m := 16) (n := 2)) _ _ fun p => ?_).symm
  obtain ⟨e, h⟩ := p
  have he := e.isLt
  have hh := h.isLt
  rw [show expertOf (finProdFinEquiv (e, h) : Fin (16 * 2)).val = e from Fin.ext (by
      show (h.val + 2 * e.val) / 2 % 16 = e.val; omega),
    show halfOf (finProdFinEquiv (e, h) : Fin (16 * 2)).val = h from Fin.ext (by
      show (h.val + 2 * e.val) % 2 = h.val; omega)]

variable (m : (ℓ : Loc nD τ sig) → Buf (Elt Ideal) ℓ) (c : Dev nD)

/-- The arguments of the program, as it was launched. -/
abbrev argX : FVec Ideal S64x1x1024 .f32 := m ((c.tc : Thread nD τ).loc main_arg0)
abbrev argG : FVec Ideal S16x1024 .f32 := m ((c.tc : Thread nD τ).loc main_arg1)
abbrev argW1 : FVec Ideal S16x2048x1024 .f32 := m ((c.tc : Thread nD τ).loc main_arg2)
abbrev argW3 : FVec Ideal S16x2048x1024 .f32 := m ((c.tc : Thread nD τ).loc main_arg3)
abbrev argW2 : FVec Ideal S16x1024x2048 .f32 := m ((c.tc : Thread nD τ).loc main_arg4)

/-- The array of window 0 is the tokens as a matrix. -/
theorem tokens_eq (r : Fin 64) (d : Fin 1024) :
    (V m c main_v0 : FVec Ideal S64x1024 .f32) (ix2 r d) = argX m c (ix3 r 0 d) := by
  have h : (V m c main_v0 : FVec Ideal S64x1024 .f32) = shapeCast S64x1024 (argX m c) shapeCasts_S64x1x1024_S64x1024 := by
    show StableHlo.after hostOps0 (fun b => m (c, b)) (Proc.devRef .tc main_v0) = _
    after_results
    rfl
  rw [h]
  pointwise []

/-- Where the blocks of the weights lie. -/
theorem index2 (t : Fin cfg0.N) : win0_2.index t 0 = t.val / 2 % 16 ∧ win0_2.index t 1 = t.val % 2 ∧ win0_2.index t 2 = 0 := by
  revert t; decide +kernel
theorem index3 (t : Fin cfg0.N) : win0_3.index t 0 = t.val / 2 % 16 ∧ win0_3.index t 1 = t.val % 2 ∧ win0_3.index t 2 = 0 := by
  revert t; decide +kernel
theorem index4 (t : Fin cfg0.N) : win0_4.index t 0 = t.val / 2 % 16 ∧ win0_4.index t 1 = 0 ∧ win0_4.index t 2 = t.val % 2 := by
  revert t; decide +kernel

/-- Window 0's block is the whole array at every point. -/
theorem block0 (t : Fin cfg0.N) : (iblk m c 0 t : FVec Ideal S64x1024 .f32) = V m c main_v0 :=
  Memref.read_access_unit_zero (Elt Ideal) main_v0 (off := fun a => win0_0.index t a * main_v0.ty.shape.size a)
    (funext fun a => by fin_cases a <;> rfl) _ _
/-- Window 1's block is the router's weights at every point. -/
theorem block1 (t : Fin cfg0.N) : (iblk m c 1 t : FVec Ideal S16x1024 .f32) = argG m c :=
  (Memref.read_access_unit_zero (Elt Ideal) main_arg1 (off := fun a => win0_1.index t a * main_arg1.ty.shape.size a)
    (funext fun a => by fin_cases a <;> rfl) _ _).trans (V_main_arg1 m c)

/-- Window 2's block is the gate matrix's rows of the point's expert and half. -/
theorem block2 (t : Fin cfg0.N) (j d : Fin 1024) :
    (iblk m c 2 t : FVec Ideal S1x1024x1024 .f32) (ix3 0 j d) = argW1 m c (ix3 (expertOf t.val) (unitAt (halfOf t.val) j) d) := by
  obtain ⟨h0, h1, h2⟩ := index2 t
  unfold iblk
  rw [View.read_apply]
  show V m c main_arg2 _ = _
  rw [V_main_arg2 m c]
  refine congrArg (argW1 m c) (funext fun a => Fin.ext ?_)
  match a with
  | 0 => show win0_2.index t 0 * 1 + 1 * 0 = t.val / 2 % 16; omega
  | 1 => show win0_2.index t 1 * 1024 + 1 * j.val = t.val % 2 * 1024 + j.val; omega
  | 2 => show win0_2.index t 2 * 1024 + 1 * d.val = d.val; omega

/-- Window 3's block is the up matrix's rows of the point's expert and half. -/
theorem block3 (t : Fin cfg0.N) (j d : Fin 1024) :
    (iblk m c 3 t : FVec Ideal S1x1024x1024 .f32) (ix3 0 j d) = argW3 m c (ix3 (expertOf t.val) (unitAt (halfOf t.val) j) d) := by
  obtain ⟨h0, h1, h2⟩ := index3 t
  unfold iblk
  rw [View.read_apply]
  show V m c main_arg3 _ = _
  rw [V_main_arg3 m c]
  refine congrArg (argW3 m c) (funext fun a => Fin.ext ?_)
  match a with
  | 0 => show win0_3.index t 0 * 1 + 1 * 0 = t.val / 2 % 16; omega
  | 1 => show win0_3.index t 1 * 1024 + 1 * j.val = t.val % 2 * 1024 + j.val; omega
  | 2 => show win0_3.index t 2 * 1024 + 1 * d.val = d.val; omega

/-- Window 4's block is the down matrix's columns of the point's expert and half. -/
theorem block4 (t : Fin cfg0.N) (k j : Fin 1024) :
    (iblk m c 4 t : FVec Ideal S1x1024x1024 .f32) (ix3 0 k j) = argW2 m c (ix3 (expertOf t.val) k (unitAt (halfOf t.val) j)) := by
  obtain ⟨h0, h1, h2⟩ := index4 t
  unfold iblk
  rw [View.read_apply]
  show V m c main_arg4 _ = _
  rw [V_main_arg4 m c]
  refine congrArg (argW2 m c) (funext fun a => Fin.ext ?_)
  match a with
  | 0 => show win0_4.index t 0 * 1 + 1 * 0 = t.val / 2 % 16; omega
  | 1 => show win0_4.index t 1 * 1024 + 1 * k.val = k.val; omega
  | 2 => show win0_4.index t 2 * 1024 + 1 * j.val = t.val % 2 * 1024 + j.val; omega

/-- The term of point n at token r and output column k. -/
def termAt (r : Fin 64) (k : Fin 1024) (n : Nat) : EReal :=
  pointTerm (coefRounds (score (logits (fun r d => argX m c (ix3 r 0 d)) (mat2 (argG m c)) r)) (expertOf n))
    (fun d => argX m c (ix3 r 0 d)) (mat3 (argW1 m c) (expertOf n)) (mat3 (argW3 m c) (expertOf n)) (mat3 (argW2 m c) (expertOf n) k) (halfOf n)

/-- The coefficients the grid carries from its first point on. -/
abbrev carried : FVec Ideal S64x16 .f32 := coefs (V m c main_v0) (argG m c)

/-- They are the two rounds' coefficients of the token's scores. -/
theorem carried_apply (r : Fin 64) (k : Fin 16) :
    carried m c (ix2 r k) = coefRounds (score (logits (fun r d => argX m c (ix3 r 0 d)) (mat2 (argG m c)) r)) k := by
  refine (coef_apply _ _ r k).trans ?_
  rw [show mat2 (V m c main_v0 : FVec Ideal S64x1024 .f32) = fun r d => argX m c (ix3 r 0 d) from
    funext fun r => funext fun d => tokens_eq m c r d]

/-- One step of the accumulation, read at an element: the accumulator plus the point's term. -/
theorem step_apply (t : Fin cfg0.N) (acc : FVec Ideal S64x1024 .f32) (r : Fin 64) (k : Fin 1024) :
    k0_pay14 (F := Ideal) (grid0.coords t) (iblk m c 0 t) (iblk m c 2 t) (iblk m c 3 t) (carried m c) acc (iblk m c 4 t) (ix2 r k)
      = acc (ix2 r k) + termAt m c r k t.val := by
  have he : grid0.coords t 0 = expertOf t.val := Fin.ext (Pipeline.Grid.coords_val t 0 (by decide) rfl)
  unfold termAt pointTerm
  rw [pay14_apply, block0]
  refine congrArg (acc (ix2 r k) + ·) (Finset.sum_congr rfl fun j _ => ?_)
  rw [show mat2 (V m c main_v0 : FVec Ideal S64x1024 .f32) r = fun d => argX m c (ix3 r 0 d) from funext fun d => tokens_eq m c r d,
    show mat3 (iblk m c 2 t : FVec Ideal S1x1024x1024 .f32) 0 j = mat3 (argW1 m c) (expertOf t.val) (unitAt (halfOf t.val) j) from
      funext fun d => block2 m c t j d,
    show mat3 (iblk m c 3 t : FVec Ideal S1x1024x1024 .f32) 0 j = mat3 (argW3 m c) (expertOf t.val) (unitAt (halfOf t.val) j) from
      funext fun d => block3 m c t j d,
    show mat3 (iblk m c 4 t : FVec Ideal S1x1024x1024 .f32) 0 k j = mat3 (argW2 m c) (expertOf t.val) k (unitAt (halfOf t.val) j) from
      block4 m c t k j,
    show mat2 (carried m c) r (grid0.coords t 0) = _ from carried_apply m c r _, he]

/-- After point n the scratch holds the coefficients and the output window the sum of the terms up to point n. -/
theorem outsAt_eq : ∀ (n : Nat) (hn : n < cfg0.N), (outsAt0 m c n hn).2 = carried m c
    ∧ ∀ r k, ((outsAt0 m c n hn).1 : FVec Ideal S64x1024 .f32) (ix2 r k) = ∑ i ∈ Finset.range (n + 1), termAt m c r k i
  | 0, hn => by
    have e := outsAt0_A m c ⟨0, hn⟩ rfl
    rw [out_A, sout_A, block1] at e
    have hc : coefs (iblk m c 0 ⟨0, hn⟩) (argG m c) = carried m c := congrArg (coefs · (argG m c)) (block0 m c ⟨0, hn⟩)
    rw [hc] at e
    refine ⟨congrArg Prod.snd e, fun r k => ?_⟩
    refine (congrFun (congrArg Prod.fst e) (ix2 r k)).trans ((step_apply m c ⟨0, hn⟩ _ r k).trans ?_)
    rw [Finset.sum_range_one]
    refine (congrArg (· + termAt m c r k 0) ?_).trans (zero_add _)
    pointwise [k0_pay13]
  | n + 1, hn => by
    have h32 : n + 1 < 32 := lt_of_lt_of_eq hn N_0
    obtain ⟨ih2, ih1⟩ := outsAt_eq n (by omega)
    have e := outsAt0_B m c ⟨n + 1, hn⟩ (by show ¬(n + 1) % 32 = 0; omega)
    rw [out_B] at e
    refine ⟨(congrArg Prod.snd e).trans ih2, fun r k => ?_⟩
    refine (congrFun (congrArg Prod.fst e) (ix2 r k)).trans ?_
    show k0_pay14 (F := Ideal) _ _ _ _ (outsAt0 m c n _).2 _ _ (ix2 r k) = _
    rw [ih2]
    refine (step_apply m c ⟨n + 1, hn⟩ _ r k).trans ?_
    rw [Finset.sum_range_succ _ (n + 1)]
    exact congrArg (· + termAt m c r k (n + 1)) (ih1 r k)

/-- What the output array ends with: the kernel's element at every token and column. -/
def result : FVec Ideal S64x1024 .f32 := fun i =>
  kerOut (fun r d => argX m c (ix3 r 0 d)) (mat2 (argG m c)) (mat3 (argW1 m c)) (mat3 (argW3 m c)) (mat3 (argW2 m c)) (i 0) (i 1)

/-- The output window after the last point. -/
theorem last_eq (t : Fin cfg0.N) (ht : t.val = 31) : (outsAt0 m c t.val t.isLt).1 = result m c := by
  funext i
  obtain ⟨n, hn⟩ := t
  obtain rfl : n = 31 := ht
  rw [show i = ix2 (i 0) (i 1) from funext fun a => by fin_cases a <;> rfl]
  refine ((outsAt_eq m c 31 hn).2 (i 0) (i 1)).trans ?_
  exact sum_points fun e h => pointTerm (coefRounds (score (logits (fun r d => argX m c (ix3 r 0 d)) (mat2 (argG m c)) (i 0))) e)
    (fun d => argX m c (ix3 (i 0) 0 d)) (mat3 (argW1 m c) e) (mat3 (argW3 m c) e) (mat3 (argW2 m c) e (i 1)) h

end MoeProof

end
-- ==== Proof.Run.lean ====
/- The kernel's run: the output array ends with the sum of the points' terms, and the program's result is that array
   reshaped. -/
module

public import proofs.«01_k».proof.Proof.Accum

@[expose] public section

set_option maxRecDepth 16384

noncomputable section

namespace MoeProof

open Cert.KernelIdeal Cert.KernelIdeal.Gen Idealize.ShloMosaic Idealize.ShloMosaic.TcCoe Idealize.SL.Sem

variable (m : (ℓ : Loc nD τ sig) → Buf (Elt Ideal) ℓ) (c : Dev nD)

/-- What the one write-back moves is the whole result array. -/
theorem flushed_eq (t : Fin cfg0.N) (ht : (cfg0.win 5).flush t = true) :
    (dats m 0 c).flushed 5 t = ((cfg0.win 5).blk t).view.read (Elt Ideal) (result m c) := by
  have h31 : t.val = 31 := by
    have := (flush0_5 t).mp ht
    have := lt_of_lt_of_eq t.isLt N_0
    omega
  show (cfg0.win 5).cut (grid0.coords t) ((dats m 0 c).after 5 t) = _
  rw [after0_5, last_eq m c t h31]
  exact (Memref.read_access_unit_zero (Elt Ideal) main_v1 (off := fun a => win0_5.index t a * main_v1.ty.shape.size a)
    (funext fun a => by fin_cases a <;> rfl) _ (result m c)).symm

/-- The last point. -/
def lastPoint : Fin cfg0.N := ⟨31, by rw [show cfg0.N = 32 from N_0]; decide⟩

/-- The output array after the grid. -/
theorem final_out : (dats m 0 c).arrAt 5 cfg0.N = result m c :=
  (dats m 0 c).arrAt_eq_of_cover 5 (result m c) (flushed_eq m c) fun i =>
    ⟨lastPoint, (flush0_5 lastPoint).mpr rfl, by
      show i ∈ ((View.whole main_v1).slice (win0_5.rect lastPoint)).set
      rw [View.set_slice_whole, Rect.mem_set_unit]
      intro a
      have h0 : ∀ a, win0_5.index lastPoint a = 0 := by decide +kernel
      have h1 : ∀ a, win0_5.xsize (grid0.coords lastPoint) a = main_v1.ty.shape.size a := by decide +kernel
      have ha : (i a).val < main_v1.ty.shape.size a := (i a).isLt
      show win0_5.index lastPoint a * win0_5.size a ≤ (i a).val ∧ (i a).val < win0_5.index lastPoint a * win0_5.size a + win0_5.xsize (grid0.coords lastPoint) a
      rw [h0 a, h1 a, Nat.zero_mul, Nat.zero_add]
      exact ⟨Nat.zero_le _, ha⟩⟩

/-- The program's result after the reshape that follows the grid. -/
theorem final_result (r : Fin 64) (k : Fin 1024) :
    (Pipeline.afterTail₀ cfgs (dats m) 0 (V0 m) [hostOps1] c main_v2 : FVec Ideal S64x1x1024 .f32) (ix3 r 0 k) = result m c (ix2 r k) := by
  have h : (Pipeline.afterTail₀ cfgs (dats m) 0 (V0 m) [hostOps1] c main_v2 : FVec Ideal S64x1x1024 .f32)
      = shapeCast S64x1x1024 (result m c) shapeCasts_S64x1024_S64x1x1024 := by
    unfold Pipeline.afterTail₀
    show StableHlo.after hostOps1 _ (Proc.devRef .tc main_v2) = _
    after_results
    exact congrArg (fun y : FVec Ideal S64x1024 .f32 => shapeCast S64x1x1024 y shapeCasts_S64x1024_S64x1x1024)
      ((Pipeline.withArrays_arr spec0 (by decide) c (V0 m c) (fun w => (dats m 0 c).arrAt w cfg0.N) 5).trans (final_out m c))
  rw [h]
  pointwise []

/-- The result of the program: the kernel's element at every token and column, in the result's shape. -/
def value (m : (ℓ : Loc nD τ sig) → Buf (Elt Ideal) ℓ) (c : Dev nD) : FVec Ideal S64x1x1024 .f32 := fun i =>
  kerOut (fun r d => argX m c (ix3 r 0 d)) (mat2 (argG m c)) (mat3 (argW1 m c)) (mat3 (argW3 m c)) (mat3 (argW2 m c)) (i 0) (i 2)

/-- An index of the result is its token and its column: the middle axis has extent one. -/
theorem idx_eq (i : S64x1x1024.Idx) : i = ix3 (i 0) 0 (i 2) := by
  funext a
  match a with
  | 0 => rfl
  | 1 => exact Fin.ext (Nat.lt_one_iff.mp (i 1).isLt)
  | 2 => rfl

/-- Every execution of the kernel's program ends with `value` in its result and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, h.2 c⟩) (θ_run_and (run_main m ρ) (unchanged m ρ))
  refine ((h.1 c).2 main_v2 (Pipeline.mem_restRefs_of main_v2 (by decide) (by decide))).trans (funext fun i => ?_)
  rw [idx_eq i]
  exact final_result m c (i 0) (i 2)

end MoeProof

end
-- ==== Proof.RefRouter.lean ====
/- The reference's router read at an index: its scores, its top two values and positions, their weights, and the
   coefficient of an expert. -/
module

public import proofs.«01_k».proof.Proof.Moe
public import proofs.«01_k».proof.Proof.Arrays
public import proofs.«01_k».proof.Proof.Gen.ReferenceIdeal.Read

@[expose] public section

set_option maxRecDepth 16384

noncomputable section

namespace MoeProof

open Cert.ReferenceIdeal Cert.ReferenceIdeal.Gen Cert.ReferenceIdeal.Read Idealize.ShloMosaic

/-- An index of the scores with its column replaced. -/
theorem along_row (r : Fin 64) (q : Fin 16) (h : 1 < S64x16.rank) (k : Fin (S64x16.size ⟨1, h⟩)) :
    (Shape.Idx.along (s := S64x16) (ix2 r q) ⟨1, h⟩ k : S64x16.Idx) = ix2 (n0 := 64) (n1 := 16) r k := by
  funext a; fin_cases a <;> rfl

/-- The top-two operation's comparator, "greater score first", on a row. -/
theorem sort_row (y : FVec Ideal S64x16 .f32) (r : Fin 64) (q : Fin 16) :
    sortedFrom (fun k k' : Fin 16 => FloatOps.cmpfTotal (F := Ideal) (φ := .f32) .gt (y (ix2 r k)) (y (ix2 r k')) == 1#1) q
      = place (fun k => y (ix2 r k)) q := by
  unfold place
  refine congrArg (fun R => sortedFrom R q) (funext fun k => funext fun k' => ?_)
  show (BitVec.ofBool (decide (y (ix2 r k') < y (ix2 r k))) == 1#1) = _
  cases decide (y (ix2 r k') < y (ix2 r k)) <;> rfl

/-- The sort of the scores with their positions, read in row `r` at place `q`. -/
theorem sort2_row (y : FVec Ideal S64x16 .f32) (f : S64x16.Idx → BitVec 32) (r : Fin 64) (q : Fin 16) :
    (Host.sort2 S64x16 1 (fun l r => FloatOps.cmpfTotal (F := Ideal) (φ := .f32) .gt l.1 r.1) y f).1 (ix2 r q)
        = y (ix2 r (place (fun k => y (ix2 r k)) q))
      ∧ (Host.sort2 S64x16 1 (fun l r => FloatOps.cmpfTotal (F := Ideal) (φ := .f32) .gt l.1 r.1) y f).2 (ix2 r q)
        = f (ix2 r (place (fun k => y (ix2 r k)) q)) := by
  unfold Host.sort2
  rw [dif_pos (show 1 < S64x16.rank by decide)]
  simp only [along_row]
  rw [← sort_row y r q]
  exact ⟨rfl, rfl⟩

/-- The values of the top-two operation are the scores at the stable descending sort's first two places. -/
theorem topK_val (y : FVec Ideal S64x16 .f32) (h : S64x16.Slices (fun _ => 0) S64x2) (r : Fin 64) (i : Fin 2) :
    (Host.topK S64x2 1 (FloatOps.cmpfTotal (F := Ideal) .gt) y h).1 (ix2 r i) = topVal (fun k => y (ix2 r k)) i := by
  unfold Host.topK
  dsimp only
  rw [extractStridedSlice_apply _ _ _ _ (ix2 r (i.castLE (by decide) : Fin 16)) (by intro a; fin_cases a <;> exact (Nat.zero_add _).symm)]
  exact (sort2_row y _ r _).1

/-- Its indices are those places' positions. -/
theorem topK_idx (y : FVec Ideal S64x16 .f32) (h : S64x16.Slices (fun _ => 0) S64x2) (r : Fin 64) (i : Fin 2) :
    (Host.topK S64x2 1 (FloatOps.cmpfTotal (F := Ideal) .gt) y h).2 (ix2 r i)
      = BitVec.ofNat 32 (place (fun k => y (ix2 r k)) (i.castLE (by decide))).val := by
  unfold Host.topK
  dsimp only
  rw [extractStridedSlice_apply _ _ _ _ (ix2 r (i.castLE (by decide) : Fin 16)) (by intro a; fin_cases a <;> exact (Nat.zero_add _).symm)]
  exact (sort2_row y _ r _).2

/-- The tokens of the rank-three argument. -/
abbrev tok (x0 : FVec Ideal S64x1x1024 .f32) (r : Fin 64) (d : Fin 1024) : EReal := x0 (ix3 r 0 d)
/-- The reference's scores. -/
theorem v13_apply (x0 : FVec Ideal S64x1x1024 .f32) (x1 : FVec Ideal S16x1024 .f32) (r : Fin 64) (k : Fin 16) :
    val_main_v13 (F := Ideal) x0 x1 (ix2 r k) = score (logits (tok x0) (mat2 x1) r) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [ofBits_negInf, bot_le, sup_of_le_right]
  rfl

/-- The reference's weights of the two positions. -/
theorem v24_apply (x0 : FVec Ideal S64x1x1024 .f32) (x1 : FVec Ideal S16x1024 .f32) (r : Fin 64) (i : Fin 2) :
    val_main_v24 (F := Ideal) x0 x1 (ix2 r i) = topWeight (score (logits (tok x0) (mat2 x1) r)) i := by
  have hv : ∀ j, val_main_values (F := Ideal) x0 x1 (ix2 r j) = topVal (score (logits (tok x0) (mat2 x1) r)) j := fun j => by
    unfold val_main_values
    rw [topK_val]
    simp only [v13_apply]
  pointwise [val_main_v24, val_main_v23, val_main_v22, val_main_v21, val_main_v20, val_main_v19, val_main_v18, val_main_v17,
    val_main_v16, val_main_v15, val_main_v14, val_main_cst_2, val_main_cst_3, val_main_cst_4]
  simp only [ofBits_negInf, hv]
  unfold topWeight
  rw [zero_add]

/-- The reference's positions. -/
theorem indices_apply (x0 : FVec Ideal S64x1x1024 .f32) (x1 : FVec Ideal S16x1024 .f32) (r : Fin 64) (i : Fin 2) :
    val_main_indices (F := Ideal) x0 x1 (ix2 r i)
      = BitVec.ofNat 32 (place (score (logits (tok x0) (mat2 x1) r)) (i.castLE (by decide))).val := by
  unfold val_main_indices
  rw [topK_idx]
  simp only [v13_apply]

end MoeProof

end
-- ==== Proof.RefExpert.lean ====
/- The reference's sum over the experts: one expert's addend as a function of its number, read at an index once for all
   sixteen, and the result as the sixteen-fold sum. -/
module

public import proofs.«01_k».proof.Proof.RefRouter

@[expose] public section

set_option maxRecDepth 16384

noncomputable section

namespace MoeProof

open Cert.ReferenceIdeal Cert.ReferenceIdeal.Gen Cert.ReferenceIdeal.Read Idealize.ShloMosaic

/-- Expert `k`'s slab lies inside the first-layer arguments. -/
theorem slabs (k : Fin 16) : S16x2048x1024.Slices ![k.val, 0, 0] S1x2048x1024 := by revert k; decide
/-- Expert `k`'s slab lies inside the second-layer argument. -/
theorem slabs' (k : Fin 16) : S16x1024x2048.Slices ![k.val, 0, 0] S1x1024x2048 := by revert k; decide

/-- Expert `k`'s weights of a first-layer argument. -/
def slab (k : Fin 16) (w : FVec Ideal S16x2048x1024 .f32) : FVec Ideal S2048x1024 .f32 :=
  shapeCast _ (extractStridedSlice S1x2048x1024 ![k.val, 0, 0] w (slabs k)) shapeCasts_S1x2048x1024_S2048x1024

/-- Expert `k`'s weights of the second-layer argument. -/
def slab' (k : Fin 16) (w : FVec Ideal S16x1024x2048 .f32) : FVec Ideal S1024x2048 .f32 :=
  shapeCast _ (extractStridedSlice S1x1024x2048 ![k.val, 0, 0] w (slabs' k)) shapeCasts_S1x1024x2048_S1024x2048

/-- A product of the tokens with expert `k`'s weights. -/
def first (k : Fin 16) (x0 : FVec Ideal S64x1x1024 .f32) (w : FVec Ideal S16x2048x1024 .f32) : FVec Ideal S64x2048 .f32 :=
  Host.dotGeneral (φ₁ := .f32) (φ₂ := .f32) dot_S64x1024_S1024x2048_S64x2048_1_0_0_1_n_n none (val_main_v0 (F := Ideal) x0)
    (transpose S1024x2048 [1, 0] (slab k w) transposes_S2048x1024_S1024x2048_1_0)

/-- The hidden layer of expert `k`. -/
def hidden (k : Fin 16) (x0 : FVec Ideal S64x1x1024 .f32) (x2 x3 : FVec Ideal S16x2048x1024 .f32) : FVec Ideal S64x2048 .f32 :=
  mulf (mulf (first k x0 x2)
    (Host.divf (broadcastInDim S64x2048 ![] bcast_S_S64x2048 (constant S_ .f32 0x3F800000#32))
      (addf (broadcastInDim S64x2048 ![] bcast_S_S64x2048 (constant S_ .f32 0x3F800000#32)) (Host.exp (Host.negf (first k x0 x2))))))
    (first k x0 x3)

/-- The output of expert `k`. -/
def expert (k : Fin 16) (x0 : FVec Ideal S64x1x1024 .f32) (x2 x3 : FVec Ideal S16x2048x1024 .f32)
    (x4 : FVec Ideal S16x1024x2048 .f32) : FVec Ideal S64x1024 .f32 :=
  Host.dotGeneral dot_S64x2048_S2048x1024_S64x1024_1_0_0_1_n_n none (hidden k x0 x2 x3)
    (transpose S2048x1024 [1, 0] (slab' k x4) transposes_S1024x2048_S2048x1024_1_0)

/-- The coefficient of expert `k`, one per token: the sum of the weights of the positions equal to `k`. -/
def coefCol (k : Fin 16) (x0 : FVec Ideal S64x1x1024 .f32) (x1 : FVec Ideal S16x1024 .f32) : FVec Ideal S64 .f32 :=
  Host.reduceAdd (select (cmpi .eq (val_main_indices (F := Ideal) x0 x1) (broadcastInDim S64x2 ![] bcast_S_S64x2 (constantI S_ 32 (BitVec.ofNat 32 k.val))))
    (val_main_v24 (F := Ideal) x0 x1) (broadcastInDim S64x2 ![] bcast_S_S64x2 (constant S_ .f32 0x00000000#32)))
    (constant S_ .f32 0x00000000#32) reducesTo_S64x2_S64_d1 h_S_

/-- What expert `k` adds to the result. -/
def addend (x0 : FVec Ideal S64x1x1024 .f32) (x1 : FVec Ideal S16x1024 .f32) (x2 x3 : FVec Ideal S16x2048x1024 .f32)
    (x4 : FVec Ideal S16x1024x2048 .f32) (k : Fin 16) : FVec Ideal S64x1024 .f32 :=
  mulf (broadcastInDim S64x1024 ![0, 1] bcast_S64x1_S64x1024_0_1 (broadcastInDim S64x1 ![0] bcast_S64_S64x1_0 (coefCol k x0 x1)))
    (expert k x0 x2 x3 x4)

/-- The coefficient read at a token: the sort's. -/
theorem coefCol_apply (k : Fin 16) (x0 : FVec Ideal S64x1x1024 .f32) (x1 : FVec Ideal S16x1024 .f32) (r : Fin 64) :
    coefCol k x0 x1 (ix1 r) = coefSort (score (logits (tok x0) (mat2 x1) r)) k := by
  pointwise [coefCol]
  simp only [indices_apply, v24_apply]
  simp only [select_eq]
  unfold coefSort
  rw [zero_add]

/-- The addend read at an index. -/
theorem addend_apply (x0 : FVec Ideal S64x1x1024 .f32) (x1 : FVec Ideal S16x1024 .f32) (x2 x3 : FVec Ideal S16x2048x1024 .f32)
    (x4 : FVec Ideal S16x1024x2048 .f32) (k : Fin 16) (r : Fin 64) (c : Fin 1024) :
    addend x0 x1 x2 x3 x4 k (ix2 r c) = coefSort (score (logits (tok x0) (mat2 x1) r)) k
      * ∑ n, unitOf (tok x0 r) (mat3 x2 k n) (mat3 x3 k n) * mat3 x4 k c n := by
  pointwise [addend, expert, hidden, first, slab, slab', val_main_v0]
  rw [coefCol_apply]
  rfl

/-- The result before its last reshape is the sum of the sixteen addends, from the array of zeros. -/
theorem v377_eq (x0 : FVec Ideal S64x1x1024 .f32) (x1 : FVec Ideal S16x1024 .f32) (x2 x3 : FVec Ideal S16x2048x1024 .f32)
    (x4 : FVec Ideal S16x1024x2048 .f32) :
    val_main_v377 (F := Ideal) x0 x1 x2 x3 x4 =
      List.foldl (fun acc k => addf acc (addend x0 x1 x2 x3 x4 k)) (val_main_v25 (F := Ideal))
        [0, 1, 2, 3, 4, 5, 6, 7, 8, 9, 10, 11, 12, 13, 14, 15] := rfl

/-- The sum of the first addends at an index. -/
theorem foldl_addf (f : Fin 16 → FVec Ideal S64x1024 .f32) (i : S64x1024.Idx) (l : List (Fin 16)) (z : FVec Ideal S64x1024 .f32) :
    List.foldl (fun acc k => addf acc (f k)) z l i = z i + (l.map fun k => f k i).sum := by
  induction l generalizing z with
  | nil => simp
  | cons a l ih => rw [List.foldl_cons, ih, List.map_cons, List.sum_cons, ← add_assoc]; rfl

/-- The reference's result at an index. -/
theorem v378_apply (x0 : FVec Ideal S64x1x1024 .f32) (x1 : FVec Ideal S16x1024 .f32) (x2 x3 : FVec Ideal S16x2048x1024 .f32)
    (x4 : FVec Ideal S16x1024x2048 .f32) (r : Fin 64) (c : Fin 1024) :
    val_main_v378 (F := Ideal) x0 x1 x2 x3 x4 (ix3 r 0 c)
      = refOut (tok x0) (mat2 x1) (mat3 x2) (mat3 x3) (mat3 x4) r c := by
  pointwise [val_main_v378]
  rw [v377_eq, foldl_addf]
  pointwise [val_main_v25, val_main_cst_5]
  simp only [addend_apply]
  unfold refOut
  rw [← List.sum_ofFn]
  simp [List.ofFn_succ]

end MoeProof

end
-- ==== Proof.Finite.lean ====
/- The precondition, decoded: the tokens and the router's weights are real numbers. -/
module

public import proofs.«01_k».proof.Pre_finite_router
public import proofs.«01_k».proof.Proof.Arrays
public import Idealize.ShloMosaic.Lib.ReduceAll
public import Idealize.ShloMosaic.Lib.Affine

@[expose] public section

noncomputable section

namespace MoeProof

open Cert.Pre_finite_router Idealize.ShloMosaic

/-- The precondition's shape facts. -/
instance finite_facts : Cert.Pre_finite_router.Facts where
  bcast_S_S64x1x1024 := by decide
  reducesTo_S64x1x1024_S_d0_1_2 := by decide
  h_S_ := by decide
  bcast_S_S16x1024 := by decide
  reducesTo_S16x1024_S_d0_1 := by decide

/-- The pattern 0x7F800000 denotes +∞. -/
theorem ofBits_posInf : Ideal.ofBits .f32 0x7F800000#32 = ⊤ := by
  simp [Ideal.ofBits, Ideal.ieee]

/-- An extended real whose absolute value compares below +∞ is a real number. -/
theorem real_of_abs_lt (x : EReal)
    (h : FloatOps.cmpf (F := Ideal) (φ := .f32) .olt (max x (-x)) (Ideal.ofBits .f32 0x7F800000#32) = 1#1) : ∃ q : ℝ, x = q := by
  rw [ofBits_posInf] at h
  induction x with
  | coe q => exact ⟨q, rfl⟩
  | bot => simp [Ideal.cmpf_def, Ideal.cmp] at h
  | top => simp [Ideal.cmpf_def, Ideal.cmp] at h

/-- Where the precondition holds, every token's entry and every entry of the router's weights is a real number. -/
theorem finite_of_pre (x : FVec Ideal S64x1x1024 .f32) (g : FVec Ideal S16x1024 .f32) (w1 w3 : FVec Ideal S16x2048x1024 .f32)
    (w2 : FVec Ideal S16x1024x2048 .f32) (h : Cert.Pre_finite_router.fn (F := Ideal) x g w1 w3 w2 = fun _ => 1#1) :
    (∀ i, ∃ q : ℝ, x i = q) ∧ ∀ i, ∃ q : ℝ, g i = q := by
  have e := congrFun h (fun a => a.elim0)
  dsimp only [Cert.Pre_finite_router.fn] at e
  obtain ⟨ex, eg⟩ := IntOp.andi_eq_one.mp e
  exact ⟨fun i => real_of_abs_lt _ (Host.reduce_andi_all _ _ _ _ _ ex i), fun i => real_of_abs_lt _ (Host.reduce_andi_all _ _ _ _ _ eg i)⟩

end MoeProof

end
-- ==== Proof.Equation.lean ====
/- The equation of the two programs: on arguments the precondition admits, the kernel's result is the reference's. -/
module

public import proofs.«01_k».proof.Proof.Run
public import proofs.«01_k».proof.Proof.RefExpert
public import proofs.«01_k».proof.Proof.Finite
public import proofs.«01_k».proof.Proof.Gen.ReferenceIdeal.Run

@[expose] public section

set_option maxRecDepth 16384

noncomputable section

namespace MoeProof

open Idealize.ShloMosaic Idealize.ShloMosaic.TcCoe Idealize.SL.Sem

/-- The reference's result is `value` at every index, where the tokens and the router's weights are real numbers. -/
theorem reference_eq_value (m : (ℓ : Loc Cert.KernelIdeal.nD Cert.KernelIdeal.τ Cert.KernelIdeal.sig) → Buf (Elt Ideal) ℓ)
    (c : Dev Cert.KernelIdeal.nD) (hx : ∀ i, ∃ q : ℝ, argX m c i = q) (hg : ∀ i, ∃ q : ℝ, argG m c i = q) :
    Cert.ReferenceIdeal.Read.val_main_v378 (F := Ideal) (argX m c) (argG m c) (argW1 m c) (argW3 m c) (argW2 m c) = value m c := by
  funext i
  rw [idx_eq i]
  exact (v378_apply (argX m c) (argG m c) (argW1 m c) (argW3 m c) (argW2 m c) (i 0) (i 2)).trans
    (kerOut_eq_refOut _ _ _ _ _ (fun r d => hx (ix3 r 0 d)) (fun k d => hg (ix2 k d)) (i 0) (i 2)).symm

section
open Cert.ReferenceIdeal

/-- Every execution of the reference ends with its composed function of the arguments in its result and the arguments
    unchanged. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v378) = Read.val_main_v378 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (Read.val_main_v378_eq (StableHlo.launchContents m c)), (h c).2⟩) (Value.run m ρ)

end

end MoeProof

end
-- ==== Proof.lean ====
module

public import proofs.«01_k».proof.Defs
public import proofs.«01_k».proof.Proof.Gen.Kernel.Frame
public import proofs.«01_k».proof.Proof.Equation
public import Idealize.ShloMosaic.Lib.Quiescent

@[expose] public section

noncomputable section

namespace Cert.Proof

open Idealize.ShloMosaic Idealize.ShloMosaic.TcCoe Idealize.SL.Sem

/-- The reference terminates with its arguments unchanged; it declares no semaphore, so every counter stays at zero. -/
theorem reference_quiescent (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
        ∧ r.2.sem = fun _ => 0) :=
  (θ_run ReferenceIdeal.defs _ _).mono (fun r h => ⟨fun c => (h c).2, sem_eq_zero_of_no_sems (by decide) r.2⟩)
    (MoeProof.reference_run m ρ)

/-- The two programs end with the same result: `MoeProof.value` of the kernel's arguments. -/
theorem algebraic : algebraic_KernelIdeal_ReferenceIdeal_pre_finite_router := by
  intro m ρ m' ρ' hpre hargs
  refine ⟨MoeProof.value m, MoeProof.kernel_run m ρ, (θ_run ReferenceIdeal.defs _ _).mono (fun r h c => ⟨?_, (h c).2⟩)
    (MoeProof.reference_run m' ρ')⟩
  obtain ⟨e0, e1, e2, e3, e4⟩ := hargs c
  obtain ⟨hx, hg⟩ := MoeProof.finite_of_pre _ _ _ _ _ (hpre c)
  refine (h c).1.trans ?_
  rw [e0, e1, e2, e3, e4]
  exact MoeProof.reference_eq_value m c hx hg

theorem claim : Cert.Claim :=
  ⟨Cert.Kernel.Gen.facts, Cert.KernelIdeal.Gen.facts, Cert.ReferenceIdeal.Gen.facts, MoeProof.finite_facts,
    fun m ρ _ => Cert.Kernel.Gen.frame m ρ, fun m ρ _ => Cert.KernelIdeal.Gen.frame m ρ,
    fun m ρ _ => Cert.KernelIdeal.Gen.frame m ρ, fun m ρ _ => reference_quiescent m ρ,
    fun m ρ _ => reference_quiescent m ρ, trivial, algebraic⟩

end Cert.Proof

end
